-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.blockN ⟨4, ![1, 2048, 32, 128]⟩ ⟨4, ![1, 2048, 64, 128]⟩ (Layout.meshBlock [2, 2, 2] ![[], [], [0], []] c) (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.blockN ⟨2, ![4096, 8192]⟩ ⟨2, ![8192, 8192]⟩ (Layout.meshBlock [2, 2, 2] ![[0], []] c) (m' (((0 : Dev Cert.ReferenceIdeal.nD).tc : Thread Cert.ReferenceIdeal.nD Cert.ReferenceIdeal.τ).loc Cert.ReferenceIdeal.main_arg1))) →
    ∃ (v0 : Buf (Elt Ideal) (((0 : Dev Cert.ReferenceIdeal.nD).tc : Thread Cert.ReferenceIdeal.nD Cert.ReferenceIdeal.τ).loc Cert.ReferenceIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v36) = Layout.blockN ⟨3, ![1, 1024, 8192]⟩ ⟨3, ![1, 2048, 8192]⟩ (Layout.meshBlock [2, 2, 2] ![[], [0], []] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v3) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1x2048x32x128 : Shape := ⟨4, ![1, 2048, 32, 128]⟩
abbrev S4096x8192 : Shape := ⟨2, ![4096, 8192]⟩
abbrev S2048x4096 : Shape := ⟨2, ![2048, 4096]⟩
abbrev S_ : Shape := ⟨0, ![]⟩
abbrev S1024x4096 : Shape := ⟨2, ![1024, 4096]⟩
abbrev S1x1024x4096 : Shape := ⟨3, ![1, 1024, 4096]⟩
abbrev S3x1024x4096 : Shape := ⟨3, ![3, 1024, 4096]⟩
abbrev S4096x4096 : Shape := ⟨2, ![4096, 4096]⟩
abbrev S4096x256 : Shape := ⟨2, ![4096, 256]⟩
abbrev S1x1024x256 : Shape := ⟨3, ![1, 1024, 256]⟩
abbrev S16x1024x256 : Shape := ⟨3, ![16, 1024, 256]⟩
abbrev S16 : Shape := ⟨1, ![16]⟩
abbrev S8 : Shape := ⟨1, ![8]⟩
abbrev S1024x256 : Shape := ⟨2, ![1024, 256]⟩
abbrev S1 : Shape := ⟨1, ![1]⟩
abbrev S1024x512 : Shape := ⟨2, ![1024, 512]⟩
abbrev S1024x8192 : Shape := ⟨2, ![1024, 8192]⟩
abbrev S1x1024x8192 : Shape := ⟨3, ![1, 1024, 8192]⟩

abbrev nBuf : Space → Nat
  | .hbm => 73
  | .vmem => 10
  | .smem => 0
  | _ => 0

abbrev bufTy : (tb : Table) → Fin (tcTables nBuf tb) → BufTy
  | .hbm, ⟨0, _⟩ => ⟨S1x2048x32x128, .bf16⟩
  | .hbm, ⟨1, _⟩ => ⟨S4096x8192, .bf16⟩
  | .hbm, ⟨2, _⟩ => ⟨S2048x4096, .bf16⟩
  | .hbm, ⟨3, _⟩ => ⟨S_, .i32⟩
  | .hbm, ⟨4, _⟩ => ⟨S_, .i32⟩
  | .hbm, ⟨5, _⟩ => ⟨S_, .i32⟩
  | .hbm, ⟨6, _⟩ => ⟨S_, .i32⟩
  | .hbm, ⟨7, _⟩ => ⟨S_, .i32⟩
  | .hbm, ⟨8, _⟩ => ⟨S_, .i32⟩
  | .hbm, ⟨9, _⟩ => ⟨S_, .i32⟩
  | .hbm, ⟨10, _⟩ => ⟨S_, .i32⟩
  | .hbm, ⟨11, _⟩ => ⟨S_, .i32⟩
  | .hbm, ⟨12, _⟩ => ⟨S_, .i32⟩
  | .hbm, ⟨13, _⟩ => ⟨S_, .i32⟩
  | .hbm, ⟨14, _⟩ => ⟨S_, .i32⟩
  | .hbm, ⟨15, _⟩ => ⟨S_, .i32⟩
  | .hbm, ⟨16, _⟩ => ⟨S_, .i32⟩
  | .hbm, ⟨17, _⟩ => ⟨S_, .i32⟩
  | .hbm, ⟨18, _⟩ => ⟨S_, .i32⟩
  | .hbm, ⟨19, _⟩ => ⟨S_, .i32⟩
  | .hbm, ⟨20, _⟩ => ⟨S_, .i1⟩
  | .hbm, ⟨21, _⟩ => ⟨S_, .i32⟩
  | .hbm, ⟨22, _⟩ => ⟨S_, .i32⟩
  | .hbm, ⟨23, _⟩ => ⟨S_, .i32⟩
  | .hbm, ⟨24, _⟩ => ⟨S_, .i32⟩
  | .hbm, ⟨25, _⟩ => ⟨S1024x4096, .bf16⟩
  | .hbm, ⟨26, _⟩ => ⟨S_, .i32⟩
  | .hbm, ⟨27, _⟩ => ⟨S_, .i32⟩
  | .hbm, ⟨28, _⟩ => ⟨S_, .i32⟩
  | .hbm, ⟨29, _⟩ => ⟨S_, .i1⟩
  | .hbm, ⟨30, _⟩ => ⟨S_, .i32⟩
  | .hbm, ⟨31, _⟩ => ⟨S_, .i32⟩
  | .hbm, ⟨32, _⟩ => ⟨S_, .i32⟩
  | .hbm, ⟨33, _⟩ => ⟨S_, .i32⟩
  | .hbm, ⟨34, _⟩ => ⟨S1024x4096, .bf16⟩
  | .hbm, ⟨35, _⟩ => ⟨S1x1024x4096, .bf16⟩
  | .hbm, ⟨36, _⟩ => ⟨S1x1024x4096, .bf16⟩
  | .hbm, ⟨37, _⟩ => ⟨S1x1024x4096, .bf16⟩
  | .hbm, ⟨38, _⟩ => ⟨S3x1024x4096, .bf16⟩
  | .hbm, ⟨39, _⟩ => ⟨S_, .i32⟩
  | .hbm, ⟨40, _⟩ => ⟨S_, .i32⟩
  | .hbm, ⟨41, _⟩ => ⟨S_, .i32⟩
  | .hbm, ⟨42, _⟩ => ⟨S_, .i1⟩
  | .hbm, ⟨43, _⟩ => ⟨S_, .i32⟩
  | .hbm, ⟨44, _⟩ => ⟨S_, .i32⟩
  | .hbm, ⟨45, _⟩ => ⟨S_, .i32⟩
  | .hbm, ⟨46, _⟩ => ⟨S_, .i32⟩
  | .hbm, ⟨47, _⟩ => ⟨S4096x4096, .bf16⟩
  | .hbm, ⟨48, _⟩ => ⟨S3x1024x4096, .f32⟩
  | .hbm, ⟨49, _⟩ => ⟨S_, .i32⟩
  | .hbm, ⟨50, _⟩ => ⟨S_, .i32⟩
  | .hbm, ⟨51, _⟩ => ⟨S_, .i32⟩
  | .hbm, ⟨52, _⟩ => ⟨S_, .i1⟩
  | .hbm, ⟨53, _⟩ => ⟨S_, .i32⟩
  | .hbm, ⟨54, _⟩ => ⟨S_, .i32⟩
  | .hbm, ⟨55, _⟩ => ⟨S_, .i32⟩
  | .hbm, ⟨56, _⟩ => ⟨S_, .i32⟩
  | .hbm, ⟨57, _⟩ => ⟨S_, .i32⟩
  | .hbm, ⟨58, _⟩ => ⟨S1x1024x4096, .f32⟩
  | .hbm, ⟨59, _⟩ => ⟨S1024x4096, .f32⟩
  | .hbm, ⟨60, _⟩ => ⟨S_, .i32⟩
  | .hbm, ⟨61, _⟩ => ⟨S_, .i32⟩
  | .hbm, ⟨62, _⟩ => ⟨S_, .i32⟩
  | .hbm, ⟨63, _⟩ => ⟨S_, .i1⟩
  | .hbm, ⟨64, _⟩ => ⟨S_, .i32⟩
  | .hbm, ⟨65, _⟩ => ⟨S_, .i32⟩
  | .hbm, ⟨66, _⟩ => ⟨S_, .i32⟩
  | .hbm, ⟨67, _⟩ => ⟨S_, .i32⟩
  | .hbm, ⟨68, _⟩ => ⟨S_, .i32⟩
  | .hbm, ⟨69, _⟩ => ⟨S1x1024x4096, .f32⟩
  | .hbm, ⟨70, _⟩ => ⟨S1024x4096, .f32⟩
  | .hbm, ⟨71, _⟩ => ⟨S1024x8192, .f32⟩
  | .hbm, ⟨72, _⟩ => ⟨S1x1024x8192, .f32⟩
  | .local _ .vmem, ⟨0, _⟩ => ⟨S1x1024x4096, .bf16⟩
  | .local _ .vmem, ⟨1, _⟩ => ⟨S1x1024x4096, .bf16⟩
  | .local _ .vmem, ⟨2, _⟩ => ⟨S4096x256, .bf16⟩
  | .local _ .vmem, ⟨3, _⟩ => ⟨S4096x256, .bf16⟩
  | .local _ .vmem, ⟨4, _⟩ => ⟨S1x1024x256, .f32⟩
  | .local _ .vmem, ⟨5, _⟩ => ⟨S1x1024x256, .f32⟩
  | .local _ .vmem, ⟨6, _⟩ => ⟨S16x1024x256, .bf16⟩
  | .local _ .vmem, ⟨7, _⟩ => ⟨S16x1024x256, .bf16⟩
  | .local _ .vmem, ⟨8, _⟩ => ⟨S1024x4096, .bf16⟩
  | .local _ .vmem, ⟨9, _⟩ => ⟨S1024x4096, .bf16⟩
  | _, _ => ⟨S1x2048x32x128, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 1 → Bool
  | ⟨0, _⟩ => false
  | _ => false

abbrev dmaSemScoped : Fin 54 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | _ => false

abbrev sig : RefSig :=
  (ofTc nBuf bufTy 1 54 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1 : Ref sig .tc := ⟨.hbm, 2, rfl⟩
abbrev main_c : Ref sig .tc := ⟨.hbm, 3, rfl⟩
abbrev main_c_0 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_c_1 : Ref sig .tc := ⟨.hbm, 9, rfl⟩
abbrev main_c_2 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_c_3 : Ref sig .tc := ⟨.hbm, 15, rfl⟩
abbrev main_v10 : Ref sig .tc := ⟨.hbm, 16, rfl⟩
abbrev main_c_4 : Ref sig .tc := ⟨.hbm, 17, rfl⟩
abbrev main_v11 : Ref sig .tc := ⟨.hbm, 18, rfl⟩
abbrev main_c_5 : Ref sig .tc := ⟨.hbm, 19, rfl⟩
abbrev main_v12 : Ref sig .tc := ⟨.hbm, 20, rfl⟩
abbrev main_c_6 : Ref sig .tc := ⟨.hbm, 21, rfl⟩
abbrev main_v13 : Ref sig .tc := ⟨.hbm, 22, rfl⟩
abbrev main_v14 : Ref sig .tc := ⟨.hbm, 23, rfl⟩
abbrev main_c_7 : Ref sig .tc := ⟨.hbm, 24, rfl⟩
abbrev main_v15 : Ref sig .tc := ⟨.hbm, 25, rfl⟩
abbrev main_c_8 : Ref sig .tc := ⟨.hbm, 26, rfl⟩
abbrev main_v16 : Ref sig .tc := ⟨.hbm, 27, rfl⟩
abbrev main_c_9 : Ref sig .tc := ⟨.hbm, 28, rfl⟩
abbrev main_v17 : Ref sig .tc := ⟨.hbm, 29, rfl⟩
abbrev main_c_10 : Ref sig .tc := ⟨.hbm, 30, rfl⟩
abbrev main_v18 : Ref sig .tc := ⟨.hbm, 31, rfl⟩
abbrev main_v19 : Ref sig .tc := ⟨.hbm, 32, rfl⟩
abbrev main_c_11 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_c_12 : Ref sig .tc := ⟨.hbm, 39, rfl⟩
abbrev main_v25 : Ref sig .tc := ⟨.hbm, 40, rfl⟩
abbrev main_c_13 : Ref sig .tc := ⟨.hbm, 41, rfl⟩
abbrev main_v26 : Ref sig .tc := ⟨.hbm, 42, rfl⟩
abbrev main_c_14 : Ref sig .tc := ⟨.hbm, 43, rfl⟩
abbrev main_v27 : Ref sig .tc := ⟨.hbm, 44, rfl⟩
abbrev main_v28 : Ref sig .tc := ⟨.hbm, 45, rfl⟩
abbrev main_c_15 : Ref sig .tc := ⟨.hbm, 46, rfl⟩
abbrev main_v29 : Ref sig .tc := ⟨.hbm, 47, rfl⟩
abbrev main_v30 : Ref sig .tc := ⟨.hbm, 48, rfl⟩
abbrev main_c_16 : Ref sig .tc := ⟨.hbm, 49, rfl⟩
abbrev main_v31 : Ref sig .tc := ⟨.hbm, 50, rfl⟩
abbrev main_call0_c : Ref sig .tc := ⟨.hbm, 51, rfl⟩
abbrev main_call0_v0 : Ref sig .tc := ⟨.hbm, 52, rfl⟩
abbrev main_call0_c_0 : Ref sig .tc := ⟨.hbm, 53, rfl⟩
abbrev main_call0_v1 : Ref sig .tc := ⟨.hbm, 54, rfl⟩
abbrev main_call0_v2 : Ref sig .tc := ⟨.hbm, 55, rfl⟩
abbrev main_call0_c_1 : Ref sig .tc := ⟨.hbm, 56, rfl⟩
abbrev main_call0_c_2 : Ref sig .tc := ⟨.hbm, 57, rfl⟩
abbrev main_call0_v3 : Ref sig .tc := ⟨.hbm, 58, rfl⟩
abbrev main_v32 : Ref sig .tc := ⟨.hbm, 59, rfl⟩
abbrev main_c_17 : Ref sig .tc := ⟨.hbm, 60, rfl⟩
abbrev main_v33 : Ref sig .tc := ⟨.hbm, 61, rfl⟩
abbrev main_call1_c : Ref sig .tc := ⟨.hbm, 62, rfl⟩
abbrev main_call1_v0 : Ref sig .tc := ⟨.hbm, 63, rfl⟩
abbrev main_call1_c_0 : Ref sig .tc := ⟨.hbm, 64, rfl⟩
abbrev main_call1_v1 : Ref sig .tc := ⟨.hbm, 65, rfl⟩
abbrev main_call1_v2 : Ref sig .tc := ⟨.hbm, 66, rfl⟩
abbrev main_call1_c_1 : Ref sig .tc := ⟨.hbm, 67, rfl⟩
abbrev main_call1_c_2 : Ref sig .tc := ⟨.hbm, 68, rfl⟩
abbrev main_call1_v3 : Ref sig .tc := ⟨.hbm, 69, rfl⟩
abbrev main_v34 : Ref sig .tc := ⟨.hbm, 70, rfl⟩
abbrev main_v35 : Ref sig .tc := ⟨.hbm, 71, rfl⟩
abbrev main_v36 : Ref sig .tc := ⟨.hbm, 72, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_scratch1 : Ref sig .tc := ⟨.vmem, 7, rfl⟩
abbrev cc0_scratch2 : Ref sig .tc := ⟨.vmem, 8, rfl⟩
abbrev cc0_scratch3 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev barrier0 : Sem sig := 0

abbrev nD : Nat := 8
abbrev τ : Topo := Topo.v7x

variable {F : FTy → Type} [FloatOps F]

abbrev grid0 : Pipeline.Grid := ⟨2, ![3, 16], ![false, false]⟩

def k0_cond1 (i : grid0.Coords) : BitVec 1 :=
  let arg0 : BitVec 32 := BitVec.ofNat 32 (i 0).val
  let c0_i32 : BitVec 32 := 0#32
  let v11 : BitVec 1 := Scalar.cmpi .eq arg0 c0_i32
  let arg1 : BitVec 32 := BitVec.ofNat 32 (i 1).val
  let c0_i32_5 : BitVec 32 := 0#32
  let v12 : BitVec 1 := Scalar.cmpi .eq arg1 c0_i32_5
  let v13 : BitVec 1 := Scalar.andi v11 v12
  let v14 : BitVec 32 := Scalar.extui v13
  let c0_i32_6 : BitVec 32 := 0#32
  let v15 : BitVec 1 := Scalar.cmpi .ne v14 c0_i32_6
  v15

def k0_dev1 (d0 : Dev nD) : Nat :=
  let c0_i32_15 : BitVec 32 := 0#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let c4_i32_14 : BitVec 32 := 4#32
  let v26 : BitVec 32 := Scalar.muli v9 c4_i32_14
  let v27 : BitVec 32 := Scalar.addi c0_i32_15 v26
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_16 : BitVec 32 := 2#32
  let v28 : BitVec 32 := Scalar.muli v5 c2_i32_16
  let v29 : BitVec 32 := Scalar.addi v27 v28
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_17 : BitVec 32 := 1#32
  let v30 : BitVec 32 := Scalar.muli v8 c1_i32_17
  let v31 : BitVec 32 := Scalar.addi v29 v30
  v31.toNat
def k0_dev2 (d0 : Dev nD) : Nat :=
  let c0_i32_20 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_19 : BitVec 32 := 4#32
  let v32 : BitVec 32 := Scalar.muli v2 c4_i32_19
  let v33 : BitVec 32 := Scalar.addi c0_i32_20 v32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_21 : BitVec 32 := 2#32
  let v34 : BitVec 32 := Scalar.muli v5 c2_i32_21
  let v35 : BitVec 32 := Scalar.addi v33 v34
  let c1_i32_4 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v10 : BitVec 32 := Scalar.subi c1_i32_4 v8
  let c1_i32_22 : BitVec 32 := 1#32
  let v36 : BitVec 32 := Scalar.muli v10 c1_i32_22
  let v37 : BitVec 32 := Scalar.addi v35 v36
  v37.toNat
def k0_cond2 (i : grid0.Coords) : BitVec 1 :=
  let arg0 : BitVec 32 := BitVec.ofNat 32 (i 0).val
  let c0_i32_7 : BitVec 32 := 0#32
  let v16 : BitVec 1 := Scalar.cmpi .eq arg0 c0_i32_7
  let v17 : BitVec 32 := Scalar.extui v16
  let c0_i32_8 : BitVec 32 := 0#32
  let v18 : BitVec 1 := Scalar.cmpi .ne v17 c0_i32_8
  v18

def k0_off1 (i : grid0.Coords) : Fin 3 → Nat :=
  let arg1 : BitVec 32 := BitVec.ofNat 32 (i 1).val
  let v32 : Index := Scalar.indexCast arg1
  let c0_17 : Index := 0#32
  let c0_18 : Index := 0#32
  ![v32.toNat, 0, 0]
def k0_off2 (i : grid0.Coords) : Fin 1 → Nat :=
  let arg1 : BitVec 32 := BitVec.ofNat 32 (i 1).val
  ![arg1.toNat]
def k0_off3 (i : grid0.Coords) : Fin 3 → Nat :=
  let arg1 : BitVec 32 := BitVec.ofNat 32 (i 1).val
  let c0_i32_23 : BitVec 32 := 0#32
  let c0_i32_24 : BitVec 32 := 0#32
  ![arg1.toNat, 0, 0]
def k0_dev3 (d0 : Dev nD) : Nat :=
  let c0_i32_20 : BitVec 32 := 0#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let c4_i32_19 : BitVec 32 := 4#32
  let v36 : BitVec 32 := Scalar.muli v9 c4_i32_19
  let v37 : BitVec 32 := Scalar.addi c0_i32_20 v36
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_21 : BitVec 32 := 2#32
  let v38 : BitVec 32 := Scalar.muli v5 c2_i32_21
  let v39 : BitVec 32 := Scalar.addi v37 v38
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_22 : BitVec 32 := 1#32
  let v40 : BitVec 32 := Scalar.muli v8 c1_i32_22
  let v41 : BitVec 32 := Scalar.addi v39 v40
  v41.toNat
def k0_cond3 (i : grid0.Coords) : BitVec 1 :=
  let arg0 : BitVec 32 := BitVec.ofNat 32 (i 0).val
  let c1_i32_9 : BitVec 32 := 1#32
  let v19 : BitVec 1 := Scalar.cmpi .eq arg0 c1_i32_9
  let v20 : BitVec 32 := Scalar.extui v19
  let c0_i32_10 : BitVec 32 := 0#32
  let v21 : BitVec 1 := Scalar.cmpi .ne v20 c0_i32_10
  v21

def k0_off4 (i : grid0.Coords) : Fin 1 → Nat :=
  let arg1 : BitVec 32 := BitVec.ofNat 32 (i 1).val
  ![arg1.toNat]
def k0_off5 (i : grid0.Coords) : Fin 3 → Nat :=
  let arg1 : BitVec 32 := BitVec.ofNat 32 (i 1).val
  let c0_i32_18 : BitVec 32 := 0#32
  let c0_i32_19 : BitVec 32 := 0#32
  ![arg1.toNat, 0, 0]
def k0_off6 (i : grid0.Coords) : Fin 3 → Nat :=
  let arg1 : BitVec 32 := BitVec.ofNat 32 (i 1).val
  let v48 : Index := Scalar.indexCast arg1
  let c0_30 : Index := 0#32
  let c0_31 : Index := 0#32
  ![v48.toNat, 0, 0]
def k0_off7 (i : grid0.Coords) : Fin 2 → Nat :=
  let c0_35 : Index := 0#32
  let arg1 : BitVec 32 := BitVec.ofNat 32 (i 1).val
  let c256_i32 : BitVec 32 := 256#32
  let v57 : BitVec 32 := Scalar.muli arg1 c256_i32
  let v58 : Index := Scalar.indexCast v57
  ![0, v58.toNat]
def k0_cond4 (i : grid0.Coords) : BitVec 1 :=
  let arg1 : BitVec 32 := BitVec.ofNat 32 (i 1).val
  let c2_i32_36 : BitVec 32 := 2#32
  let c0_i32_37 : BitVec 32 := 0#32
  let v62 : BitVec 1 := Scalar.cmpi .eq c2_i32_36 c0_i32_37
  let c1_i32_38 : BitVec 32 := 1#32
  let v63 : BitVec 32 := Scalar.select v62 c1_i32_38 c2_i32_36
  let v64 : BitVec 32 := Scalar.remsi arg1 v63
  let c0_i32_40 : BitVec 32 := 0#32
  let v66 : BitVec 1 := Scalar.cmpi .slt v64 c0_i32_40
  let c0_i32_41 : BitVec 32 := 0#32
  let v67 : BitVec 1 := Scalar.cmpi .slt v63 c0_i32_41
  let v68 : BitVec 1 := Scalar.xori v66 v67
  let c0_i32_39 : BitVec 32 := 0#32
  let v65 : BitVec 1 := Scalar.cmpi .ne v64 c0_i32_39
  let v69 : BitVec 1 := Scalar.andi v68 v65
  let v70 : BitVec 32 := Scalar.addi v64 v63
  let v71 : BitVec 32 := Scalar.select v69 v70 v64
  let c1_i32_42 : BitVec 32 := 1#32
  let v72 : BitVec 1 := Scalar.cmpi .eq v71 c1_i32_42
  let v73 : BitVec 32 := Scalar.extui v72
  let c0_i32_43 : BitVec 32 := 0#32
  let v74 : BitVec 1 := Scalar.cmpi .ne v73 c0_i32_43
  v74

def k0_off8 (i : grid0.Coords) : Fin 1 → Nat :=
  let arg1 : BitVec 32 := BitVec.ofNat 32 (i 1).val
  let c0_i32_45 : BitVec 32 := 0#32
  let v76 : BitVec 1 := Scalar.cmpi .sgt arg1 c0_i32_45
  let v77 : BitVec 32 := Scalar.extui v76
  let c0_i32_46 : BitVec 32 := 0#32
  let v78 : BitVec 1 := Scalar.cmpi .slt arg1 c0_i32_46
  let v79 : BitVec 32 := Scalar.extui v78
  let v80 : BitVec 32 := Scalar.subi v77 v79
  let c2_i32_44 : BitVec 32 := 2#32
  let c0_i32_47 : BitVec 32 := 0#32
  let v81 : BitVec 1 := Scalar.cmpi .sgt c2_i32_44 c0_i32_47
  let v82 : BitVec 32 := Scalar.extui v81
  let c0_i32_48 : BitVec 32 := 0#32
  let v83 : BitVec 1 := Scalar.cmpi .slt c2_i32_44 c0_i32_48
  let v84 : BitVec 32 := Scalar.extui v83
  let v85 : BitVec 32 := Scalar.subi v82 v84
  let v86 : BitVec 1 := Scalar.cmpi .ne v80 v85
  let v87 : BitVec 32 := Scalar.remsi arg1 c2_i32_44
  let c0_i32_49 : BitVec 32 := 0#32
  let v88 : BitVec 1 := Scalar.cmpi .ne v87 c0_i32_49
  let v89 : BitVec 1 := Scalar.andi v86 v88
  let v75 : BitVec 32 := Scalar.divsi arg1 c2_i32_44
  let c1_i32_50 : BitVec 32 := 1#32
  let v90 : BitVec 32 := Scalar.subi v75 c1_i32_50
  let v91 : BitVec 32 := Scalar.select v89 v90 v75
  ![v91.toNat]
def k0_off9 (i : grid0.Coords) : Fin 2 → Nat :=
  let c0_i32_56 : BitVec 32 := 0#32
  let arg1 : BitVec 32 := BitVec.ofNat 32 (i 1).val
  let c0_i32_45 : BitVec 32 := 0#32
  let v76 : BitVec 1 := Scalar.cmpi .sgt arg1 c0_i32_45
  let v77 : BitVec 32 := Scalar.extui v76
  let c0_i32_46 : BitVec 32 := 0#32
  let v78 : BitVec 1 := Scalar.cmpi .slt arg1 c0_i32_46
  let v79 : BitVec 32 := Scalar.extui v78
  let v80 : BitVec 32 := Scalar.subi v77 v79
  let c2_i32_44 : BitVec 32 := 2#32
  let c0_i32_47 : BitVec 32 := 0#32
  let v81 : BitVec 1 := Scalar.cmpi .sgt c2_i32_44 c0_i32_47
  let v82 : BitVec 32 := Scalar.extui v81
  let c0_i32_48 : BitVec 32 := 0#32
  let v83 : BitVec 1 := Scalar.cmpi .slt c2_i32_44 c0_i32_48
  let v84 : BitVec 32 := Scalar.extui v83
  let v85 : BitVec 32 := Scalar.subi v82 v84
  let v86 : BitVec 1 := Scalar.cmpi .ne v80 v85
  let v87 : BitVec 32 := Scalar.remsi arg1 c2_i32_44
  let c0_i32_49 : BitVec 32 := 0#32
  let v88 : BitVec 1 := Scalar.cmpi .ne v87 c0_i32_49
  let v89 : BitVec 1 := Scalar.andi v86 v88
  let v75 : BitVec 32 := Scalar.divsi arg1 c2_i32_44
  let c1_i32_50 : BitVec 32 := 1#32
  let v90 : BitVec 32 := Scalar.subi v75 c1_i32_50
  let v91 : BitVec 32 := Scalar.select v89 v90 v75
  let c512_i32_51 : BitVec 32 := 512#32
  let v93 : BitVec 32 := Scalar.muli v91 c512_i32_51
  ![0, v93.toNat]
def k0_dev4 (d0 : Dev nD) : Nat :=
  let c0_i32_53 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_52 : BitVec 32 := 4#32
  let v94 : BitVec 32 := Scalar.muli v2 c4_i32_52
  let v95 : BitVec 32 := Scalar.addi c0_i32_53 v94
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_54 : BitVec 32 := 2#32
  let v96 : BitVec 32 := Scalar.muli v5 c2_i32_54
  let v97 : BitVec 32 := Scalar.addi v95 v96
  let c1_i32_4 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v10 : BitVec 32 := Scalar.subi c1_i32_4 v8
  let c1_i32_55 : BitVec 32 := 1#32
  let v98 : BitVec 32 := Scalar.muli v10 c1_i32_55
  let v99 : BitVec 32 := Scalar.addi v97 v98
  v99.toNat
def k0_cond5 (i : grid0.Coords) : BitVec 1 :=
  let arg0 : BitVec 32 := BitVec.ofNat 32 (i 0).val
  let c2_i32_11 : BitVec 32 := 2#32
  let v22 : BitVec 1 := Scalar.cmpi .eq arg0 c2_i32_11
  let v23 : BitVec 32 := Scalar.extui v22
  let c0_i32_12 : BitVec 32 := 0#32
  let v24 : BitVec 1 := Scalar.cmpi .ne v23 c0_i32_12
  v24

def k0_cond6 (i : grid0.Coords) : BitVec 1 :=
  let arg1 : BitVec 32 := BitVec.ofNat 32 (i 1).val
  let c2_i32_13 : BitVec 32 := 2#32
  let c0_i32_14 : BitVec 32 := 0#32
  let v25 : BitVec 1 := Scalar.cmpi .eq c2_i32_13 c0_i32_14
  let c1_i32_15 : BitVec 32 := 1#32
  let v26 : BitVec 32 := Scalar.select v25 c1_i32_15 c2_i32_13
  let v27 : BitVec 32 := Scalar.remsi arg1 v26
  let c0_i32_17 : BitVec 32 := 0#32
  let v29 : BitVec 1 := Scalar.cmpi .slt v27 c0_i32_17
  let c0_i32_18 : BitVec 32 := 0#32
  let v30 : BitVec 1 := Scalar.cmpi .slt v26 c0_i32_18
  let v31 : BitVec 1 := Scalar.xori v29 v30
  let c0_i32_16 : BitVec 32 := 0#32
  let v28 : BitVec 1 := Scalar.cmpi .ne v27 c0_i32_16
  let v32 : BitVec 1 := Scalar.andi v31 v28
  let v33 : BitVec 32 := Scalar.addi v27 v26
  let v34 : BitVec 32 := Scalar.select v32 v33 v27
  let c0_i32_19 : BitVec 32 := 0#32
  let v35 : BitVec 1 := Scalar.cmpi .eq v34 c0_i32_19
  let v36 : BitVec 32 := Scalar.extui v35
  let c0_i32_20 : BitVec 32 := 0#32
  let v37 : BitVec 1 := Scalar.cmpi .ne v36 c0_i32_20
  v37

def k0_off10 (i : grid0.Coords) : Fin 1 → Nat :=
  let arg1 : BitVec 32 := BitVec.ofNat 32 (i 1).val
  let c0_i32_25 : BitVec 32 := 0#32
  let v46 : BitVec 1 := Scalar.cmpi .sgt arg1 c0_i32_25
  let v47 : BitVec 32 := Scalar.extui v46
  let c0_i32_26 : BitVec 32 := 0#32
  let v48 : BitVec 1 := Scalar.cmpi .slt arg1 c0_i32_26
  let v49 : BitVec 32 := Scalar.extui v48
  let v50 : BitVec 32 := Scalar.subi v47 v49
  let c2_i32_24 : BitVec 32 := 2#32
  let c0_i32_27 : BitVec 32 := 0#32
  let v51 : BitVec 1 := Scalar.cmpi .sgt c2_i32_24 c0_i32_27
  let v52 : BitVec 32 := Scalar.extui v51
  let c0_i32_28 : BitVec 32 := 0#32
  let v53 : BitVec 1 := Scalar.cmpi .slt c2_i32_24 c0_i32_28
  let v54 : BitVec 32 := Scalar.extui v53
  let v55 : BitVec 32 := Scalar.subi v52 v54
  let v56 : BitVec 1 := Scalar.cmpi .ne v50 v55
  let v57 : BitVec 32 := Scalar.remsi arg1 c2_i32_24
  let c0_i32_29 : BitVec 32 := 0#32
  let v58 : BitVec 1 := Scalar.cmpi .ne v57 c0_i32_29
  let v59 : BitVec 1 := Scalar.andi v56 v58
  let v45 : BitVec 32 := Scalar.divsi arg1 c2_i32_24
  let c1_i32_30 : BitVec 32 := 1#32
  let v60 : BitVec 32 := Scalar.subi v45 c1_i32_30
  let v61 : BitVec 32 := Scalar.select v59 v60 v45
  ![v61.toNat]
def k0_off11 (i : grid0.Coords) : Fin 2 → Nat :=
  let c0_i32_33 : BitVec 32 := 0#32
  let arg1 : BitVec 32 := BitVec.ofNat 32 (i 1).val
  let c0_i32_25 : BitVec 32 := 0#32
  let v46 : BitVec 1 := Scalar.cmpi .sgt arg1 c0_i32_25
  let v47 : BitVec 32 := Scalar.extui v46
  let c0_i32_26 : BitVec 32 := 0#32
  let v48 : BitVec 1 := Scalar.cmpi .slt arg1 c0_i32_26
  let v49 : BitVec 32 := Scalar.extui v48
  let v50 : BitVec 32 := Scalar.subi v47 v49
  let c2_i32_24 : BitVec 32 := 2#32
  let c0_i32_27 : BitVec 32 := 0#32
  let v51 : BitVec 1 := Scalar.cmpi .sgt c2_i32_24 c0_i32_27
  let v52 : BitVec 32 := Scalar.extui v51
  let c0_i32_28 : BitVec 32 := 0#32
  let v53 : BitVec 1 := Scalar.cmpi .slt c2_i32_24 c0_i32_28
  let v54 : BitVec 32 := Scalar.extui v53
  let v55 : BitVec 32 := Scalar.subi v52 v54
  let v56 : BitVec 1 := Scalar.cmpi .ne v50 v55
  let v57 : BitVec 32 := Scalar.remsi arg1 c2_i32_24
  let c0_i32_29 : BitVec 32 := 0#32
  let v58 : BitVec 1 := Scalar.cmpi .ne v57 c0_i32_29
  let v59 : BitVec 1 := Scalar.andi v56 v58
  let v45 : BitVec 32 := Scalar.divsi arg1 c2_i32_24
  let c1_i32_30 : BitVec 32 := 1#32
  let v60 : BitVec 32 := Scalar.subi v45 c1_i32_30
  let v61 : BitVec 32 := Scalar.select v59 v60 v45
  let c512_i32 : BitVec 32 := 512#32
  let v62 : BitVec 32 := Scalar.muli v61 c512_i32
  ![0, v62.toNat]
def k0_off12 (i : grid0.Coords) : Fin 2 → Nat :=
  let c0 : Index := 0#32
  let arg1 : BitVec 32 := BitVec.ofNat 32 (i 1).val
  let c256_i32 : BitVec 32 := 256#32
  let v38 : BitVec 32 := Scalar.muli arg1 c256_i32
  let v39 : Index := Scalar.indexCast v38
  ![0, v39.toNat]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S4096x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x1024x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== ReferenceIdeal.lean ====
abbrev S1x2048x64x128 : Shape := ⟨4, ![1, 2048, 64, 128]⟩
abbrev S8192x8192 : Shape := ⟨2, ![8192, 8192]⟩
abbrev S1x2048x8192 : Shape := ⟨3, ![1, 2048, 8192]⟩

abbrev nBuf : Space → Nat
  | .hbm => 6
  | .vmem => 0
  | .smem => 0
  | _ => 0

abbrev bufTy : (tb : Table) → Fin (tcTables nBuf tb) → BufTy
  | .hbm, ⟨0, _⟩ => ⟨S1x2048x64x128, .bf16⟩
  | .hbm, ⟨1, _⟩ => ⟨S8192x8192, .bf16⟩
  | .hbm, ⟨2, _⟩ => ⟨S1x2048x8192, .bf16⟩
  | .hbm, ⟨3, _⟩ => ⟨S1x2048x8192, .f32⟩
  | .hbm, ⟨4, _⟩ => ⟨S1x2048x8192, .bf16⟩
  | .hbm, ⟨5, _⟩ => ⟨S1x2048x8192, .f32⟩
  | _, _ => ⟨S1x2048x64x128, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Proof.Proto.lean ====
/-
  The protocol by which the eight devices of the 2 x 2 x 2 mesh meet, and what every message carries.

  Device c = 4x + 2y + z speaks with two partners: `xp c` (the other x) and `zp c` (the other z). At the first
  grid point it signals the barrier semaphore of both and waits for two units on its own; the signal hands its
  partner the receive buffer the partner will write. During the first sweep of the grid it computes the product
  its x partner needs and copies it there, one row of a sixteen-row buffer at a step. During the second sweep it
  computes its own product, adds the row that arrived, and copies every second step a group of 512 columns of the
  rounded sum to its z partner. During the third sweep it reads what arrived from the z partner.

  Every semaphore of the protocol is used for one round. The payload of a landing row or column group names its
  contents, as one function of the whole buffer restricted to the row or group.
-/
module

public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import Idealize.ShloMosaic.Lib.Pipeline.Launch
public import Idealize.ShloMosaic.Lib.Pipeline.Kit
public import Idealize.ShloMosaic.Lib.Ring
public import Idealize.ShloMosaic.Lib.ValueIdxCore
public import Idealize.ShloMosaic.Lib.Tactic

@[expose] public section

noncomputable section

namespace Cert.MeshProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx (ix2 ix3 eq_ix2 eq_ix3)

/-! ## The resource algebra: the staging cells' part and the talk's, whose rounds hold up to two duties -/

abbrev UR : Type := Rounds.URounds (GSem nD τ sig) Unit
abbrev UT : Type := Rounds.URounds (GSem nD τ sig) Bool
abbrev UU : Type := UR × UT

variable {F : FTy → Type} [FloatOps F]

local notation "𝕄" => MT nD τ sig Unit (Elt F) ℕ UU ℕ

abbrev EP : Emb UR (MT nD τ sig Unit (Elt F) ℕ UU ℕ) := embL
abbrev ER : Emb UT (MT nD τ sig Unit (Elt F) ℕ UU ℕ) := embR

/-! ## Partners and cells -/

/-- The device at the other x. -/
def xp (c : Dev nD) : Dev nD := ⟨if c.val < 4 then c.val + 4 else c.val - 4, by have h : c.val < 8 := c.isLt; show _ < 8; split <;> omega⟩
/-- The device at the other z. -/
def zp (c : Dev nD) : Dev nD := ⟨if c.val % 2 = 0 then c.val + 1 else c.val - 1, by have h : c.val < 8 := c.isLt; show _ < 8; split <;> omega⟩
theorem xp_xp (c : Dev nD) : xp (xp c) = c := by revert c; decide
theorem zp_zp (c : Dev nD) : zp (zp c) = c := by revert c; decide
theorem xp_ne_zp (c : Dev nD) : xp c ≠ zp c := by revert c; decide
def xpEquiv : Dev nD ≃ Dev nD := ⟨xp, xp, xp_xp, xp_xp⟩
def zpEquiv : Dev nD ≃ Dev nD := ⟨zp, zp, zp_zp, zp_zp⟩

abbrev barS : Sem sig := 0
def xsS (j : Fin 16) : DmaSem sig := ⟨6 + j.val, by have := j.isLt; show _ < 54; omega⟩
def xrS (j : Fin 16) : DmaSem sig := ⟨22 + j.val, by have := j.isLt; show _ < 54; omega⟩
def zsS (g : Fin 8) : DmaSem sig := ⟨38 + g.val, by have := g.isLt; show _ < 54; omega⟩
def zrS (g : Fin 8) : DmaSem sig := ⟨46 + g.val, by have := g.isLt; show _ < 54; omega⟩

abbrev barCell (c : Dev nD) : GSem nD τ sig := ((c : Thread nD τ), .reg barS)
abbrev xsCell (c : Dev nD) (j : Fin 16) : GSem nD τ sig := ((c : Thread nD τ), .dma (xsS j))
abbrev xrCell (c : Dev nD) (j : Fin 16) : GSem nD τ sig := ((c : Thread nD τ), .dma (xrS j))
abbrev zsCell (c : Dev nD) (g : Fin 8) : GSem nD τ sig := ((c : Thread nD τ), .dma (zsS g))
abbrev zrCell (c : Dev nD) (g : Fin 8) : GSem nD τ sig := ((c : Thread nD τ), .dma (zrS g))

/-- The region's own semaphores: x sends and receives by row, z sends and receives by group. -/
abbrev KI : Type := (Fin 16 ⊕ Fin 16) ⊕ (Fin 8 ⊕ Fin 8)
abbrev osem : KI → SemLoc sig
  | .inl (.inl j) => .dma (xsS j)
  | .inl (.inr j) => .dma (xrS j)
  | .inr (.inl g) => .dma (zsS g)
  | .inr (.inr g) => .dma (zrS g)

theorem osem_inj : Function.Injective osem := by decide

/-! ## The buffers' parts -/

abbrev BX : Type := Vec F S16x1024x256 .bf16
abbrev BZ : Type := Vec F S1024x4096 .bf16

/-- Row j of a sixteen-row buffer. -/
def sX (j : ℕ) : Finset S16x1024x256.Idx := Finset.univ.filter fun i => (i 0).val = j
/-- Group g of 512 columns. -/
def sZ (g : ℕ) : Finset S1024x4096.Idx := Finset.univ.filter fun i => (i 1).val / 512 = g
/-- Tile j of 256 columns. -/
def sT (j : ℕ) : Finset S1024x4096.Idx := Finset.univ.filter fun i => (i 1).val / 256 = j

theorem mem_sX {j : ℕ} {i : S16x1024x256.Idx} : i ∈ sX j ↔ (i 0).val = j := by simp [sX]
theorem mem_sZ {g : ℕ} {i : S1024x4096.Idx} : i ∈ sZ g ↔ (i 1).val / 512 = g := by simp [sZ]
theorem mem_sT {j : ℕ} {i : S1024x4096.Idx} : i ∈ sT j ↔ (i 1).val / 256 = j := by simp [sT]

theorem sX_disjoint (j j' : Fin 16) (h : j ≠ j') : Disjoint (sX j) (sX j') :=
  Finset.disjoint_left.mpr fun i hi hi' => h (Fin.ext ((mem_sX.mp hi).symm.trans (mem_sX.mp hi')))
theorem sZ_disjoint (g g' : Fin 8) (h : g ≠ g') : Disjoint (sZ g) (sZ g') :=
  Finset.disjoint_left.mpr fun i hi hi' => h (Fin.ext ((mem_sZ.mp hi).symm.trans (mem_sZ.mp hi')))
theorem sX_cover : (Finset.univ : Finset (Fin 16)).biUnion (fun j => sX j) = Finset.univ :=
  Finset.eq_univ_iff_forall.mpr fun i => Finset.mem_biUnion.mpr ⟨⟨(i 0).val, (i 0).isLt⟩, Finset.mem_univ _, mem_sX.mpr rfl⟩
theorem sZ_cover : (Finset.univ : Finset (Fin 8)).biUnion (fun g => sZ g) = Finset.univ :=
  Finset.eq_univ_iff_forall.mpr fun i => Finset.mem_biUnion.mpr
    ⟨⟨(i 1).val / 512, by have : (i 1).val < 4096 := (i 1).isLt; omega⟩, Finset.mem_univ _, mem_sZ.mpr rfl⟩

abbrev pXs (c : Dev nD) (j : ℕ) (f : BX (F := F)) : sProp 𝕄 := (c : Thread nD τ).loc cc0_scratch0 ↦[sX j]{fullShare} f
abbrev pXr (c : Dev nD) (j : ℕ) (f : BX (F := F)) : sProp 𝕄 := (c : Thread nD τ).loc cc0_scratch1 ↦[sX j]{fullShare} f
abbrev pFn (c : Dev nD) (g : ℕ) (f : BZ (F := F)) : sProp 𝕄 := (c : Thread nD τ).loc cc0_scratch2 ↦[sZ g]{fullShare} f
abbrev pRz (c : Dev nD) (g : ℕ) (f : BZ (F := F)) : sProp 𝕄 := (c : Thread nD τ).loc cc0_scratch3 ↦[sZ g]{fullShare} f

/-! ## The contents: the staged blocks of every device determine every buffer -/

section Contents

variable (xA : Dev nD → Fin 48 → Vec F S1x1024x4096 .bf16) (xW : Dev nD → Fin 48 → Vec F S4096x256 .bf16)

/-- Step j of the first and of the second sweep of the grid. -/
abbrev pt0 (j : Fin 16) : Fin 48 := ⟨j.val, by omega⟩
abbrev pt1 (j : Fin 16) : Fin 48 := ⟨16 + j.val, by omega⟩

/-- One row of a sixteen-row buffer, as a load of it reads. -/
def rowOf (X : BX (F := F)) (j : Fin 16) : Vec F S1x1024x256 .bf16 := fun k => X (ix3 j (k 1) (k 2))

/-- What device c sends its x partner: row j is the product of step j of the first sweep. -/
def XS (c : Dev nD) : BX (F := F) := fun i => k0_pay1 (xA c (pt0 (i 0))) (xW c (pt0 (i 0))) (ix3 0 (i 1) (i 2))
/-- What device c receives from its x partner. -/
def RX (c : Dev nD) : BX (F := F) := XS xA xW (xp c)
/-- The rounded sum of device c: tile j is the value of step j of the second sweep. -/
def FN (c : Dev nD) : BZ (F := F) := fun i =>
  have hj : (i 1).val / 256 < 16 := by have : (i 1).val < 4096 := (i 1).isLt; omega
  k0_pay6 (xA c (pt1 ⟨(i 1).val / 256, hj⟩)) (xW c (pt1 ⟨(i 1).val / 256, hj⟩)) (rowOf (RX xA xW c) ⟨(i 1).val / 256, hj⟩)
    (ix2 (i 0) ⟨(i 1).val % 256, Nat.mod_lt _ (by decide)⟩)
/-- What device c receives from its z partner. -/
def RZ (c : Dev nD) : BZ (F := F) := FN xA xW (zp c)

/-! ## The schedule -/

theorem row_inb : ∀ a, (![0, 0, 0] : Fin 3 → ℕ) a + S1x1024x256.size a ≤ S16x1024x256.size a := by decide
theorem grp_inb : ∀ a, (![0, 0] : Fin 2 → ℕ) a + S1024x512.size a ≤ S1024x4096.size a := by decide

/-- The units a copy of one row counts, and a copy of one group. -/
def NX : ℕ := (((Memref.whole cc0_scratch1 : Memref sig .tc .vmem S16x1024x256 .bf16).slice (Rect.unit (s := S16x1024x256) ![0, 0, 0] S1x1024x256.size row_inb) (fun _ => rfl)).squeeze S1024x256 squeezes_S1x1024x256_S1024x256).view.dmaCredit
def NZ : ℕ := ((Memref.whole cc0_scratch3 : Memref sig .tc .vmem S1024x4096 .bf16).slice (Rect.unit (s := S1024x4096) ![0, 0] S1024x512.size grp_inb) (fun _ => rfl)).view.dmaCredit
theorem NX_pos : 0 < NX := View.dmaCredit_pos _ (by decide)
theorem NZ_pos : 0 < NZ := View.dmaCredit_pos _ (by decide)

/-- What the two partners' signals hand device c: the x partner (true) its sixteen receive rows, the z partner
    (false) its eight receive groups, each beside the fact that its semaphore has reached round 0. -/
def barPay (c : Dev nD) (d : Bool) : sProp 𝕄 :=
  match d with
  | true => bigSep Finset.univ fun j : Fin 16 => iprop((∃ f, pXr (xp c) j f) ∗ reached ER (xrCell (xp c) j) 0)
  | false => bigSep Finset.univ fun g : Fin 8 => iprop((∃ f, pRz (zp c) g f) ∗ reached ER (zrCell (zp c) g) 0)

def dmaPay (c : Dev nD) (q : ℕ) : sProp 𝕄 :=
  if q < 22 then pXs c (q - 6) (XS xA xW c)
  else if q < 38 then pXr c (q - 22) (RX xA xW c)
  else if q < 46 then pFn c (q - 38) (FN xA xW c)
  else pRz c (q - 46) (RZ xA xW c)

def sched : Rounds.Schedule (GSem nD τ sig) Bool 𝕄 where
  duties g r := if r = 0 ∧ g.1.2 = .tc then (match g.2 with | .reg _ => Finset.univ | .dma q => if 6 ≤ q.val then {true} else ∅) else ∅
  unitless _ := False
  amount g _ _ := match g.2 with | .reg _ => 1 | .dma q => if q.val < 38 then NX else NZ
  payload g _ d := match g.2 with | .reg _ => barPay g.1.1 d | .dma q => dmaPay xA xW g.1.1 q.val
  amount_pos g _ _ _ := by
    split
    · exact Nat.one_pos
    · split
      · exact NX_pos
      · exact NZ_pos

instance sched_payload_storable (g : GSem nD τ sig) (r : ℕ) (d : Bool) :
    BI.Storable (upEmb : UEmb _ 𝕄) ((sched xA xW).payload g r d) := by
  show BI.Storable upEmb (match g.2 with | .reg _ => barPay g.1.1 d | .dma q => dmaPay xA xW g.1.1 q.val)
  unfold barPay dmaPay
  (repeat' split) <;> infer_instance

section Sched

variable (c : Dev nD) (j : Fin 16) (g : Fin 8)

theorem duties_bar : (sched xA xW).duties (barCell c) 0 = Finset.univ := by dsimp only [sched]; exact if_pos ⟨rfl, rfl⟩
theorem duties_xs : (sched xA xW).duties (xsCell c j) 0 = {true} := by
  dsimp only [sched]; rw [if_pos ⟨rfl, rfl⟩]; exact if_pos (Nat.le_add_right _ _)
theorem duties_xr : (sched xA xW).duties (xrCell c j) 0 = {true} := by
  dsimp only [sched]; rw [if_pos ⟨rfl, rfl⟩]; exact if_pos (by show 6 ≤ 22 + j.val; omega)
theorem duties_zs : (sched xA xW).duties (zsCell c g) 0 = {true} := by
  dsimp only [sched]; rw [if_pos ⟨rfl, rfl⟩]; exact if_pos (by show 6 ≤ 38 + g.val; omega)
theorem duties_zr : (sched xA xW).duties (zrCell c g) 0 = {true} := by
  dsimp only [sched]; rw [if_pos ⟨rfl, rfl⟩]; exact if_pos (by show 6 ≤ 46 + g.val; omega)
theorem duties_later (s : GSem nD τ sig) : ∀ r, 1 ≤ r → (sched xA xW).duties s r = ∅ :=
  fun r hr => by dsimp only [sched]; exact if_neg (fun h => by omega)

theorem amount_bar (d : Bool) : (sched xA xW).amount (barCell c) 0 d = 1 := rfl
theorem amount_xs (d : Bool) : (sched xA xW).amount (xsCell c j) 0 d = NX := by
  dsimp only [sched]; exact if_pos (by show 6 + j.val < 38; omega)
theorem amount_xr (d : Bool) : (sched xA xW).amount (xrCell c j) 0 d = NX := by
  dsimp only [sched]; exact if_pos (by show 22 + j.val < 38; omega)
theorem amount_zs (d : Bool) : (sched xA xW).amount (zsCell c g) 0 d = NZ := by
  dsimp only [sched]; exact if_neg (by show ¬ 38 + g.val < 38; omega)
theorem amount_zr (d : Bool) : (sched xA xW).amount (zrCell c g) 0 d = NZ := by
  dsimp only [sched]; exact if_neg (by show ¬ 46 + g.val < 38; omega)

theorem expect_bar : (sched xA xW).expect (barCell c) 0 = 2 := by
  unfold Schedule.expect Schedule.amountOf; rw [duties_bar]; rfl
theorem expect_xs : (sched xA xW).expect (xsCell c j) 0 = NX := by
  unfold Schedule.expect Schedule.amountOf; rw [duties_xs, Finset.sum_singleton, amount_xs]
theorem expect_xr : (sched xA xW).expect (xrCell c j) 0 = NX := by
  unfold Schedule.expect Schedule.amountOf; rw [duties_xr, Finset.sum_singleton, amount_xr]
theorem expect_zs : (sched xA xW).expect (zsCell c g) 0 = NZ := by
  unfold Schedule.expect Schedule.amountOf; rw [duties_zs, Finset.sum_singleton, amount_zs]
theorem expect_zr : (sched xA xW).expect (zrCell c g) 0 = NZ := by
  unfold Schedule.expect Schedule.amountOf; rw [duties_zr, Finset.sum_singleton, amount_zr]

theorem payload_bar (d : Bool) : (sched xA xW).payload (barCell c) 0 d = barPay c d := rfl
theorem payload_xs (d : Bool) : (sched xA xW).payload (xsCell c j) 0 d = pXs c j (XS xA xW c) := by
  show dmaPay xA xW c (6 + j.val) = _
  unfold dmaPay; rw [if_pos (by omega), Nat.add_sub_cancel_left]
theorem payload_xr (d : Bool) : (sched xA xW).payload (xrCell c j) 0 d = pXr c j (RX xA xW c) := by
  show dmaPay xA xW c (22 + j.val) = _
  unfold dmaPay; rw [if_neg (by omega), if_pos (by omega), Nat.add_sub_cancel_left]
theorem payload_zs (d : Bool) : (sched xA xW).payload (zsCell c g) 0 d = pFn c g (FN xA xW c) := by
  show dmaPay xA xW c (38 + g.val) = _
  unfold dmaPay; rw [if_neg (by omega), if_neg (by omega), if_pos (by omega), Nat.add_sub_cancel_left]
theorem payload_zr (d : Bool) : (sched xA xW).payload (zrCell c g) 0 d = pRz c g (RZ xA xW c) := by
  show dmaPay xA xW c (46 + g.val) = _
  unfold dmaPay; rw [if_neg (by omega), if_neg (by omega), if_neg (by omega), Nat.add_sub_cancel_left]

theorem rest_bar : bigSep ((sched xA xW).duties (barCell c) 0 \ ∅) (fun u => (sched xA xW).payload (barCell c) 0 u)
    = iprop(barPay c true ∗ barPay (F := F) c false) := by
  rw [Finset.sdiff_empty, duties_bar, show (Finset.univ : Finset Bool) = {true, false} from rfl,
    bigSep_insert (by decide), bigSep_singleton]; rfl
theorem rest_xs : bigSep ((sched xA xW).duties (xsCell c j) 0 \ ∅) (fun u => (sched xA xW).payload (xsCell c j) 0 u) = pXs c j (XS xA xW c) := by
  rw [Finset.sdiff_empty, duties_xs, bigSep_singleton, payload_xs]
theorem rest_xr : bigSep ((sched xA xW).duties (xrCell c j) 0 \ ∅) (fun u => (sched xA xW).payload (xrCell c j) 0 u) = pXr c j (RX xA xW c) := by
  rw [Finset.sdiff_empty, duties_xr, bigSep_singleton, payload_xr]
theorem rest_zs : bigSep ((sched xA xW).duties (zsCell c g) 0 \ ∅) (fun u => (sched xA xW).payload (zsCell c g) 0 u) = pFn c g (FN xA xW c) := by
  rw [Finset.sdiff_empty, duties_zs, bigSep_singleton, payload_zs]
theorem rest_zr : bigSep ((sched xA xW).duties (zrCell c g) 0 \ ∅) (fun u => (sched xA xW).payload (zrCell c g) 0 u) = pRz c g (RZ xA xW c) := by
  rw [Finset.sdiff_empty, duties_zr, bigSep_singleton, payload_zr]

end Sched

end Contents

/-! ## Dues and levels -/

/-- The levels: sends and staging at 0, the barrier at 1, x receives at 2, z receives at 3. -/
def L (g : GSem nD τ sig) : Finset Unit := if g.1.2 = .tc then {()} else ∅
def lv (g : GSem nD τ sig) (_ : Unit) : ℕ :=
  match g.2 with | .reg _ => 1 | .dma q => if q.val < 22 then 0 else if q.val < 38 then 2 else if q.val < 46 then 0 else 3

theorem L_of_ne (g : GSem nD τ sig) (h : g.1.2 ≠ .tc) : L g = ∅ := if_neg h
theorem L_tc (c : Dev nD) (sm : SemLoc sig) : L ((c : Thread nD τ), sm) = {()} := if_pos rfl

theorem lv_bar (c : Dev nD) : lv (barCell c) () = 1 := rfl
theorem lv_low (c : Dev nD) (q : DmaSem sig) (h : q.val < 22) : lv ((c : Thread nD τ), .dma q) () = 0 := if_pos h
theorem lv_xs (c : Dev nD) (j : Fin 16) : lv (xsCell c j) () = 0 := by
  dsimp only [lv]; exact if_pos (by show 6 + j.val < 22; omega)
theorem lv_xr (c : Dev nD) (j : Fin 16) : lv (xrCell c j) () = 2 := by
  dsimp only [lv]; rw [if_neg (by show ¬ 22 + j.val < 22; omega)]; exact if_pos (by show 22 + j.val < 38; omega)
theorem lv_zr (c : Dev nD) (g : Fin 8) : lv (zrCell c g) () = 3 := by
  dsimp only [lv]; rw [if_neg (by show ¬ 46 + g.val < 22; omega), if_neg (by show ¬ 46 + g.val < 38; omega)]
  exact if_neg (by show ¬ 46 + g.val < 46; omega)

/-- What device c still owes its partners when step t begins: the rows not yet copied, the groups not yet copied. -/
def owX (c : Dev nD) (t : ℕ) : CellTallies nD τ sig Unit := ∑ j : Fin 16, if t ≤ j.val then tallyAt (xrCell (xp c) j) () NX else 0
def owZ (c : Dev nD) (t : ℕ) : CellTallies nD τ sig Unit := ∑ g : Fin 8, if t ≤ 16 + 2 * g.val + 1 then tallyAt (zrCell (zp c) g) () NZ else 0
/-- What it owes at the launch: these and a barrier unit to each partner. -/
def O₀ (c : Dev nD) : CellTallies nD τ sig Unit := ((owX c 0 + owZ c 0) + tallyAt (barCell (zp c)) () 1) + tallyAt (barCell (xp c)) () 1
/-- What it owes when step t begins. -/
def owed (c : Dev nD) (t : ℕ) : CellTallies nD τ sig Unit := if t = 0 then O₀ c else owX c t + owZ c t

theorem sum_step {ι M : Type} [Fintype ι] [DecidableEq ι] [AddCommMonoid M] (f g : ι → M) (a : ι)
    (h : ∀ i, i ≠ a → f i = g i) (hg : g a = 0) : ∑ i, f i = ∑ i, g i + f a := by
  rw [← Finset.add_sum_erase _ f (Finset.mem_univ a), ← Finset.add_sum_erase _ g (Finset.mem_univ a), hg, zero_add, add_comm]
  congr 1
  exact Finset.sum_congr rfl fun i hi => h i (Finset.ne_of_mem_erase hi)

theorem owX_step (c : Dev nD) (j : Fin 16) : owX c j.val = owX c (j.val + 1) + tallyAt (xrCell (xp c) j) () NX := by
  unfold owX
  rw [sum_step _ (fun i : Fin 16 => if j.val + 1 ≤ i.val then tallyAt (xrCell (xp c) i) () NX else 0) j]
  · rw [if_pos (le_refl _)]
  · intro i hi
    have : i.val ≠ j.val := fun e => hi (Fin.ext e)
    by_cases h : j.val ≤ i.val
    · rw [if_pos h, if_pos (by omega)]
    · rw [if_neg h, if_neg (by omega)]
  · exact if_neg (by omega)
theorem owX_done (c : Dev nD) (t : ℕ) (h : 16 ≤ t) : owX c t = 0 := by
  unfold owX; exact Finset.sum_eq_zero fun i _ => if_neg (by omega)
theorem owZ_step (c : Dev nD) (g : Fin 8) : owZ c (16 + 2 * g.val + 1) = owZ c (16 + 2 * g.val + 2) + tallyAt (zrCell (zp c) g) () NZ := by
  unfold owZ
  rw [sum_step _ (fun i : Fin 8 => if 16 + 2 * g.val + 2 ≤ 16 + 2 * i.val + 1 then tallyAt (zrCell (zp c) i) () NZ else 0) g]
  · rw [if_pos (le_refl _)]
  · intro i hi
    have : i.val ≠ g.val := fun e => hi (Fin.ext e)
    by_cases h : g.val ≤ i.val
    · rw [if_pos (by omega), if_pos (by omega)]
    · rw [if_neg (by omega), if_neg (by omega)]
  · exact if_neg (by omega)
theorem owZ_same (c : Dev nD) (t t' : ℕ) (h : ∀ g : Fin 8, t ≤ 16 + 2 * g.val + 1 ↔ t' ≤ 16 + 2 * g.val + 1) : owZ c t = owZ c t' := by
  unfold owZ
  exact Finset.sum_congr rfl fun g _ => by
    by_cases hh : t ≤ 16 + 2 * g.val + 1
    · rw [if_pos hh, if_pos ((h g).mp hh)]
    · rw [if_neg hh, if_neg fun h' => hh ((h g).mpr h')]
theorem owZ_done (c : Dev nD) (t : ℕ) (h : 32 ≤ t) : owZ c t = 0 := by
  unfold owZ; exact Finset.sum_eq_zero fun g _ => if_neg (by omega)

/-- Dues on TensorCore cells only, all above level b. -/
def Above (b : ℕ) (O : CellTallies nD τ sig Unit) : Prop := ∀ g u, 0 < O g u → g.1.2 = .tc ∧ b < lv g u

theorem Above.zero (b : ℕ) : Above b 0 := fun _ _ h => absurd h (Nat.lt_irrefl 0)
theorem Above.add {b : ℕ} {O O' : CellTallies nD τ sig Unit} (h : Above b O) (h' : Above b O') : Above b (O + O') := fun g u hg => by
  by_cases h0 : 0 < O g u
  · exact h g u h0
  · refine h' g u ?_
    have : (O + O') g u = O g u + O' g u := rfl
    omega
theorem Above.tally {b : ℕ} (c : Dev nD) (sm : SemLoc sig) (n : ℕ) (h : b < lv ((c : Thread nD τ), sm) ()) :
    Above b (tallyAt ((c : Thread nD τ), sm) () n) := fun g u hg => by
  rw [tallyAt_apply] at hg
  by_cases hh : g = ((c : Thread nD τ), sm) ∧ u = ()
  · rw [hh.1]; exact ⟨rfl, h⟩
  · rw [if_neg hh] at hg; exact absurd hg (Nat.lt_irrefl 0)
theorem Above.sum {ι : Type} {b : ℕ} (s : Finset ι) (f : ι → CellTallies nD τ sig Unit) (h : ∀ i, Above b (f i)) : Above b (∑ i ∈ s, f i) := by
  classical
  induction s using Finset.induction_on with
  | empty => rw [Finset.sum_empty]; exact Above.zero b
  | insert a s ha ih => rw [Finset.sum_insert ha]; exact (h a).add ih
theorem Above.mono {b b' : ℕ} {O : CellTallies nD τ sig Unit} (hb : b ≤ b') (h : Above b' O) : Above b O :=
  fun g u hg => ⟨(h g u hg).1, lt_of_le_of_lt hb (h g u hg).2⟩

theorem above_owX (c : Dev nD) (t : ℕ) : Above 1 (owX c t) := Above.sum _ _ fun j => by
  split
  · exact Above.tally _ _ _ (by rw [lv_xr]; decide)
  · exact Above.zero _
theorem above_owZ (c : Dev nD) (t : ℕ) : Above 2 (owZ c t) := Above.sum _ _ fun g => by
  split
  · exact Above.tally _ _ _ (by rw [lv_zr]; decide)
  · exact Above.zero _
theorem above_O₀ (c : Dev nD) : Above 0 (O₀ c) :=
  ((((above_owX c 0).mono (by decide)).add ((above_owZ c 0).mono (by decide))).add (Above.tally _ _ _ (by rw [lv_bar]; decide))).add
    (Above.tally _ _ _ (by rw [lv_bar]; decide))
theorem above_owed (c : Dev nD) (t : ℕ) : Above 0 (owed c t) := by
  unfold owed; split
  · exact above_O₀ c
  · exact ((above_owX c t).mono (by decide)).add ((above_owZ c t).mono (by decide))

theorem mayWait_of (c : Dev nD) (sm : SemLoc sig) (b : ℕ) (O : CellTallies nD τ sig Unit) (hO : Above b O)
    (hb : lv ((c : Thread nD τ), sm) () ≤ b) : (levAts L lv : sProp 𝕄) ⊢ MayWait (c : Thread nD τ) sm () O :=
  MayOwe.of_cut (L := L) (lev := lv) b (fun p hp => by rw [Finset.mem_singleton.mp hp, L_tc]; exact Finset.mem_singleton_self _)
    (fun g u hg => by rw [show L g = {()} from if_pos (hO g u hg).1]; exact Finset.mem_singleton_self _)
    (fun p hp => by rw [Finset.mem_singleton.mp hp]; exact hb)
    (fun g u hg => (hO g u hg).2)

/-! ## The grid points -/

theorem cond1_iff : ∀ t : Fin 48, k0_cond1 (grid0.coords t) = 1#1 ↔ t.val = 0 := by decide +kernel
theorem cond2_iff : ∀ t : Fin 48, k0_cond2 (grid0.coords t) = 1#1 ↔ t.val < 16 := by decide +kernel
theorem cond3_iff : ∀ t : Fin 48, k0_cond3 (grid0.coords t) = 1#1 ↔ 16 ≤ t.val ∧ t.val < 32 := by decide +kernel
theorem cond4_iff : ∀ t : Fin 48, k0_cond4 (grid0.coords t) = 1#1 ↔ t.val % 2 = 1 := by decide +kernel
theorem cond5_iff : ∀ t : Fin 48, k0_cond5 (grid0.coords t) = 1#1 ↔ 32 ≤ t.val := by decide +kernel
theorem cond6_iff : ∀ t : Fin 48, k0_cond6 (grid0.coords t) = 1#1 ↔ t.val % 2 = 0 := by decide +kernel
theorem coord1 : ∀ t : Fin 48, ((grid0.coords t) 1).val = t.val % 16 := by decide +kernel

theorem off8_eq : ∀ i : grid0.Coords, k0_off8 i = ![(i 1).val / 2] := by decide +kernel
theorem off9_eq : ∀ i : grid0.Coords, k0_off9 i = ![0, 512 * ((i 1).val / 2)] := by decide +kernel
theorem off10_eq : ∀ i : grid0.Coords, k0_off10 i = ![(i 1).val / 2] := by decide +kernel
theorem off11_eq : ∀ i : grid0.Coords, k0_off11 i = ![0, 512 * ((i 1).val / 2)] := by decide +kernel

theorem dev1_xp : ∀ d : Dev nD, k0_dev1 d = (xp d).val := by decide +kernel
theorem dev2_zp : ∀ d : Dev nD, k0_dev2 d = (zp d).val := by decide +kernel
theorem dev3_xp : ∀ d : Dev nD, k0_dev3 d = (xp d).val := by decide +kernel
theorem dev4_zp : ∀ d : Dev nD, k0_dev4 d = (zp d).val := by decide +kernel

end Cert.MeshProof
end
-- ==== Proof.Views.lean ====
/-
  The parts of the scratch buffers the body's views name, and what reads, stores and copies through them do:
  a row of a sixteen-row buffer, a tile of 256 columns, a group of 512 columns.
-/
module

public import proofs.«01_k».proof.Proof.Proto

@[expose] public section

noncomputable section

namespace Cert.MeshProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx (ix2 ix3 eq_ix2 eq_ix3)

variable {F : FTy → Type} [FloatOps F]

/-! ## Rows -/

section Row

variable {off : Fin 3 → ℕ} {j : ℕ} (ho : off = ![j, 0, 0])
  (inb : ∀ a, off a + S1x1024x256.size a ≤ S16x1024x256.size a)

abbrev rowR (off : Fin 3 → ℕ) (inb : ∀ a, off a + S1x1024x256.size a ≤ S16x1024x256.size a) : Rect S16x1024x256 :=
  Rect.unit (s := S16x1024x256) off S1x1024x256.size inb

/-- A row of the send buffer and of the receive buffer, as the copies name them. -/
abbrev sRow (off : Fin 3 → ℕ) (inb : ∀ a, off a + S1x1024x256.size a ≤ S16x1024x256.size a) : Memref sig .tc .vmem S1024x256 .bf16 :=
  ((Memref.whole cc0_scratch0 : Memref sig .tc .vmem S16x1024x256 .bf16).slice (rowR off inb) (fun _ => rfl)).squeeze S1024x256 squeezes_S1x1024x256_S1024x256
abbrev rRow (off : Fin 3 → ℕ) (inb : ∀ a, off a + S1x1024x256.size a ≤ S16x1024x256.size a) : Memref sig .tc .vmem S1024x256 .bf16 :=
  ((Memref.whole cc0_scratch1 : Memref sig .tc .vmem S16x1024x256 .bf16).slice (rowR off inb) (fun _ => rfl)).squeeze S1024x256 squeezes_S1x1024x256_S1024x256

include ho in
theorem rowR_set : (rowR off inb).set = sX j := by
  subst ho
  ext i
  rw [Rect.mem_set_unit, mem_sX]
  constructor
  · intro h
    have h0 := h 0
    have e : (![j, 0, 0] : Fin 3 → ℕ) 0 = j := rfl
    have e' : S1x1024x256.size 0 = 1 := rfl
    rw [e, e'] at h0
    omega
  · intro h a
    match a with
    | ⟨0, _⟩ =>
      show j ≤ (i 0).val ∧ (i 0).val < j + 1
      omega
    | ⟨1, _⟩ =>
      have h1 : (i 1).val < 1024 := (i 1).isLt
      show 0 ≤ (i 1).val ∧ (i 1).val < 0 + 1024
      omega
    | ⟨2, _⟩ =>
      have h2 : (i 2).val < 256 := (i 2).isLt
      show 0 ≤ (i 2).val ∧ (i 2).val < 0 + 256
      omega

include ho in
theorem sRow_set : (sRow off inb).view.set = sX j := by
  exact (View.set_reshape ((View.whole cc0_scratch0).slice (rowR off inb)) _).trans
    ((View.set_slice_whole cc0_scratch0 (rowR off inb)).trans (rowR_set ho inb))
include ho in
theorem rRow_set : (rRow off inb).view.set = sX j := by
  exact (View.set_reshape ((View.whole cc0_scratch1).slice (rowR off inb)) _).trans
    ((View.set_slice_whole cc0_scratch1 (rowR off inb)).trans (rowR_set ho inb))

include ho in
/-- A copy of a row puts each element where it was. -/
theorem rRow_copy (fd fs : BX (F := F)) : ∀ i ∈ sX j,
    (rRow off inb).view.write (Elt F) fd ((sRow off inb).view.read (Elt F) fs) Finset.univ i = fs i := by
  intro i hi
  rw [← rRow_set ho inb] at hi
  obtain ⟨x, -, rfl⟩ := Finset.mem_map.mp hi
  exact View.write_emb_of_mem _ _ (Finset.mem_univ x)

theorem rRow_amount (q : DmaSem sig) : (rRow off inb).view.amount (.dma q) = NX := rfl
theorem sRow_amount (q : DmaSem sig) : (sRow off inb).view.amount (.dma q) = NX := rfl

include ho in
theorem rowR_emb (k : S1x1024x256.Idx) (hj : j < 16) : (rowR off inb).emb k = ix3 ⟨j, hj⟩ (k 1) (k 2) := by
  subst ho
  funext a
  refine Fin.ext ?_
  rw [Rect.emb_apply]
  match a with
  | ⟨0, _⟩ =>
    have h0 : (k 0).val < 1 := (k 0).isLt
    show j + 1 * (k 0).val = j
    omega
  | ⟨1, _⟩ =>
    show 0 + 1 * (k 1).val = (k 1).val
    omega
  | ⟨2, _⟩ =>
    show 0 + 1 * (k 2).val = (k 2).val
    omega

include ho in
/-- A store of a row. -/
theorem sRow_store (f : BX (F := F)) (w : Vec F S1x1024x256 .bf16) : ∀ i ∈ sX j,
    ((Memref.whole cc0_scratch0 : Memref sig .tc .vmem S16x1024x256 .bf16).access (rowR off inb)).write (Elt F) f w Finset.univ i = w (ix3 0 (i 1) (i 2)) := by
  intro i hi
  have hj : j < 16 := by have := (i 0).isLt; rw [mem_sX.mp hi] at this; exact this
  have e : ((Memref.whole cc0_scratch0 : Memref sig .tc .vmem S16x1024x256 .bf16).access (rowR off inb)).emb (ix3 0 (i 1) (i 2)) = i := by
    refine (rowR_emb ho inb (ix3 0 (i 1) (i 2)) hj).trans ?_
    rw [eq_ix3 i]
    congr 1
    exact Fin.ext (mem_sX.mp hi).symm
  conv_lhs => rw [← e]
  exact View.write_emb_of_mem _ _ (Finset.mem_univ _)

include ho in
/-- A load of a row. -/
theorem rRow_load (f : BX (F := F)) (hj : j < 16) :
    (Memref.whole cc0_scratch1 : Memref sig .tc .vmem S16x1024x256 .bf16).view.readAt (Elt F) (rowR off inb) f = rowOf f ⟨j, hj⟩ := by
  funext k
  exact congrArg f (rowR_emb ho inb k hj)

include ho in
theorem rowR_setOn0 : ((Memref.whole cc0_scratch0 : Memref sig .tc .vmem S16x1024x256 .bf16).access (rowR off inb)).set = sX j :=
  (View.set_slice_whole cc0_scratch0 (rowR off inb)).trans (rowR_set ho inb)
include ho in
theorem rowR_setOn1 : ((Memref.whole cc0_scratch1 : Memref sig .tc .vmem S16x1024x256 .bf16).access (rowR off inb)).set = sX j :=
  (View.set_slice_whole cc0_scratch1 (rowR off inb)).trans (rowR_set ho inb)

end Row

/-! ## Tiles of 256 columns -/

theorem sT_subset (j : ℕ) : sT j ⊆ sZ (j / 2) := fun i hi => mem_sZ.mpr (by have := mem_sT.mp hi; omega)

/-- One tile of a 4096-column buffer. -/
def tileOf (X : BZ (F := F)) (j : Fin 16) : Vec F S1024x256 .bf16 :=
  fun k => X (ix2 (k 0) ⟨256 * j.val + (k 1).val, by have := j.isLt; have : (k 1).val < 256 := (k 1).isLt; omega⟩)

section Tile

variable {off : Fin 2 → ℕ} {j : ℕ} (ho : off = ![0, 256 * j])
  (inb : ∀ a, off a + S1024x256.size a ≤ S1024x4096.size a)

abbrev tileR (off : Fin 2 → ℕ) (inb : ∀ a, off a + S1024x256.size a ≤ S1024x4096.size a) : Rect S1024x4096 :=
  Rect.unit (s := S1024x4096) off S1024x256.size inb

include ho in
theorem tileR_set : (tileR off inb).set = sT j := by
  subst ho
  ext i
  rw [Rect.mem_set_unit, mem_sT]
  constructor
  · intro h
    have h1 : 256 * j ≤ (i 1).val ∧ (i 1).val < 256 * j + 256 := h 1
    omega
  · intro h a
    match a with
    | ⟨0, _⟩ =>
      have h0 : (i 0).val < 1024 := (i 0).isLt
      show 0 ≤ (i 0).val ∧ (i 0).val < 0 + 1024
      omega
    | ⟨1, _⟩ =>
      show 256 * j ≤ (i 1).val ∧ (i 1).val < 256 * j + 256
      omega

include ho in
theorem tileR_set2 : ((Memref.whole cc0_scratch2 : Memref sig .tc .vmem S1024x4096 .bf16).access (tileR off inb)).set = sT j :=
  (View.set_slice_whole cc0_scratch2 (tileR off inb)).trans (tileR_set ho inb)
include ho in
theorem tileR_set3 : ((Memref.whole cc0_scratch3 : Memref sig .tc .vmem S1024x4096 .bf16).access (tileR off inb)).set = sT j :=
  (View.set_slice_whole cc0_scratch3 (tileR off inb)).trans (tileR_set ho inb)

include ho in
theorem tileR_emb (k : S1024x256.Idx) (hj : j < 16) :
    (tileR off inb).emb k = ix2 (k 0) ⟨256 * j + (k 1).val, by have : (k 1).val < 256 := (k 1).isLt; omega⟩ := by
  subst ho
  funext a
  refine Fin.ext ?_
  rw [Rect.emb_apply]
  match a with
  | ⟨0, _⟩ =>
    show 0 + 1 * (k 0).val = (k 0).val
    omega
  | ⟨1, _⟩ =>
    show 256 * j + 1 * (k 1).val = 256 * j + (k 1).val
    omega

include ho in
/-- A store of a tile: its value on the tile, -/
theorem tile_store (f : BZ (F := F)) (w : Vec F S1024x256 .bf16) : ∀ i ∈ sT j,
    ((Memref.whole cc0_scratch2 : Memref sig .tc .vmem S1024x4096 .bf16).access (tileR off inb)).write (Elt F) f w Finset.univ i
      = w (ix2 (i 0) ⟨(i 1).val % 256, Nat.mod_lt _ (by decide)⟩) := by
  intro i hi
  have h1 : (i 1).val < 4096 := (i 1).isLt
  have hi' := mem_sT.mp hi
  have hj : j < 16 := by omega
  have e : ((Memref.whole cc0_scratch2 : Memref sig .tc .vmem S1024x4096 .bf16).access (tileR off inb)).emb
      (ix2 (i 0) ⟨(i 1).val % 256, Nat.mod_lt _ (by decide)⟩) = i := by
    refine (tileR_emb ho inb _ hj).trans ?_
    rw [eq_ix2 i]
    congr 1
    refine Fin.ext ?_
    show 256 * j + (i 1).val % 256 = (i 1).val
    omega
  conv_lhs => rw [← e]
  exact View.write_emb_of_mem _ _ (Finset.mem_univ _)

include ho in
/-- and off the tile what was there. -/
theorem tile_store_off (f : BZ (F := F)) (w : Vec F S1024x256 .bf16) : ∀ i, i ∉ sT j →
    ((Memref.whole cc0_scratch2 : Memref sig .tc .vmem S1024x4096 .bf16).access (tileR off inb)).write (Elt F) f w Finset.univ i = f i := by
  intro i hi
  exact View.write_of_not_mem _ _ _ (by rw [View.setOn_univ, tileR_set2 ho inb]; exact hi)

include ho in
/-- A load of a tile. -/
theorem tile_load (f : BZ (F := F)) (hj : j < 16) :
    (Memref.whole cc0_scratch3 : Memref sig .tc .vmem S1024x4096 .bf16).view.readAt (Elt F) (tileR off inb) f = tileOf f ⟨j, hj⟩ := by
  funext k
  exact congrArg f (tileR_emb ho inb k hj)

end Tile

/-! ## Groups of 512 columns -/

section Group

variable {off : Fin 2 → ℕ} {g : ℕ} (ho : off = ![0, 512 * g])
  (inb : ∀ a, off a + S1024x512.size a ≤ S1024x4096.size a)

abbrev grpR (off : Fin 2 → ℕ) (inb : ∀ a, off a + S1024x512.size a ≤ S1024x4096.size a) : Rect S1024x4096 :=
  Rect.unit (s := S1024x4096) off S1024x512.size inb

abbrev fGrp (off : Fin 2 → ℕ) (inb : ∀ a, off a + S1024x512.size a ≤ S1024x4096.size a) : Memref sig .tc .vmem S1024x512 .bf16 :=
  (Memref.whole cc0_scratch2 : Memref sig .tc .vmem S1024x4096 .bf16).slice (grpR off inb) (fun _ => rfl)
abbrev rGrp (off : Fin 2 → ℕ) (inb : ∀ a, off a + S1024x512.size a ≤ S1024x4096.size a) : Memref sig .tc .vmem S1024x512 .bf16 :=
  (Memref.whole cc0_scratch3 : Memref sig .tc .vmem S1024x4096 .bf16).slice (grpR off inb) (fun _ => rfl)

include ho in
theorem grpR_set : (grpR off inb).set = sZ g := by
  subst ho
  ext i
  rw [Rect.mem_set_unit, mem_sZ]
  constructor
  · intro h
    have h1 : 512 * g ≤ (i 1).val ∧ (i 1).val < 512 * g + 512 := h 1
    omega
  · intro h a
    match a with
    | ⟨0, _⟩ =>
      have h0 : (i 0).val < 1024 := (i 0).isLt
      show 0 ≤ (i 0).val ∧ (i 0).val < 0 + 1024
      omega
    | ⟨1, _⟩ =>
      show 512 * g ≤ (i 1).val ∧ (i 1).val < 512 * g + 512
      omega

include ho in
theorem fGrp_set : (fGrp off inb).view.set = sZ g := (View.set_slice_whole cc0_scratch2 (grpR off inb)).trans (grpR_set ho inb)
include ho in
theorem rGrp_set : (rGrp off inb).view.set = sZ g := (View.set_slice_whole cc0_scratch3 (grpR off inb)).trans (grpR_set ho inb)

include ho in
/-- A copy of a group puts each element where it was. -/
theorem rGrp_copy (fd fs : BZ (F := F)) : ∀ i ∈ sZ g,
    (rGrp off inb).view.write (Elt F) fd ((fGrp off inb).view.read (Elt F) fs) Finset.univ i = fs i := by
  intro i hi
  rw [← rGrp_set ho inb] at hi
  obtain ⟨x, -, rfl⟩ := Finset.mem_map.mp hi
  exact View.write_emb_of_mem _ _ (Finset.mem_univ x)

theorem rGrp_amount (q : DmaSem sig) : (rGrp off inb).view.amount (.dma q) = NZ := rfl
theorem fGrp_amount (q : DmaSem sig) : (fGrp off inb).view.amount (.dma q) = NZ := rfl

end Group

/-! ## The contents, part by part -/

section Contents

variable (xA : Dev nD → Fin 48 → Vec F S1x1024x4096 .bf16) (xW : Dev nD → Fin 48 → Vec F S4096x256 .bf16)

theorem XS_row (c : Dev nD) (j : Fin 16) : ∀ i ∈ sX j.val, XS xA xW c i = k0_pay1 (xA c (pt0 j)) (xW c (pt0 j)) (ix3 0 (i 1) (i 2)) := by
  intro i hi
  have : i 0 = j := Fin.ext (mem_sX.mp hi)
  unfold XS; rw [this]

/-- The rounded value of step j of the second sweep. -/
abbrev fnTile (c : Dev nD) (j : Fin 16) : Vec F S1024x256 .bf16 := k0_pay6 (xA c (pt1 j)) (xW c (pt1 j)) (rowOf (RX xA xW c) j)

theorem FN_tile (c : Dev nD) (j : Fin 16) : ∀ i ∈ sT j.val,
    FN xA xW c i = fnTile xA xW c j (ix2 (i 0) ⟨(i 1).val % 256, Nat.mod_lt _ (by decide)⟩) := by
  intro i hi
  have h : (⟨(i 1).val / 256, by have : (i 1).val < 4096 := (i 1).isLt; omega⟩ : Fin 16) = j := Fin.ext (mem_sT.mp hi)
  unfold FN fnTile
  simp only [h]

theorem tileOf_FN (c : Dev nD) (j : Fin 16) : tileOf (FN xA xW c) j = fnTile xA xW c j := by
  funext k
  have hk : (k 1).val < 256 := (k 1).isLt
  unfold tileOf
  rw [FN_tile xA xW c j _ (mem_sT.mpr (by show (256 * j.val + (k 1).val) / 256 = j.val; omega))]
  congr 1
  funext a
  match a with
  | ⟨0, _⟩ => rfl
  | ⟨1, _⟩ => exact Fin.ext (by show (256 * j.val + (k 1).val) % 256 = (k 1).val; omega)

end Contents

/-! ## The semaphores the body names -/

theorem sem_xs2 : ∀ (i : grid0.Coords) (inb : ∀ a, k0_off2 i a + S1.size a ≤ S16.size a),
    ((cc0_scratch4.slice (Rect.unit (s := S16) (k0_off2 i) S1.size inb)).squeeze S_ squeezes_S1_S_).sem = xsS (i 1) := by decide +kernel
theorem sem_xr2 : ∀ (i : grid0.Coords) (inb : ∀ a, k0_off2 i a + S1.size a ≤ S16.size a),
    ((cc0_scratch5.slice (Rect.unit (s := S16) (k0_off2 i) S1.size inb)).squeeze S_ squeezes_S1_S_).sem = xrS (i 1) := by decide +kernel
theorem sem_xs4 : ∀ (i : grid0.Coords) (inb : ∀ a, k0_off4 i a + S1.size a ≤ S16.size a),
    ((cc0_scratch4.slice (Rect.unit (s := S16) (k0_off4 i) S1.size inb)).squeeze S_ squeezes_S1_S_).sem = xsS (i 1) := by decide +kernel
theorem sem_xr4 : ∀ (i : grid0.Coords) (inb : ∀ a, k0_off4 i a + S1.size a ≤ S16.size a),
    ((cc0_scratch5.slice (Rect.unit (s := S16) (k0_off4 i) S1.size inb)).squeeze S_ squeezes_S1_S_).sem = xrS (i 1) := by decide +kernel
theorem sem_zs8 : ∀ (i : grid0.Coords) (inb : ∀ a, k0_off8 i a + S1.size a ≤ S8.size a),
    ((cc0_scratch6.slice (Rect.unit (s := S8) (k0_off8 i) S1.size inb)).squeeze S_ squeezes_S1_S_).sem = zsS ⟨(i 1).val / 2, by have h : (i 1).val < 16 := (i 1).isLt; omega⟩ := by decide +kernel
theorem sem_zr8 : ∀ (i : grid0.Coords) (inb : ∀ a, k0_off8 i a + S1.size a ≤ S8.size a),
    ((cc0_scratch7.slice (Rect.unit (s := S8) (k0_off8 i) S1.size inb)).squeeze S_ squeezes_S1_S_).sem = zrS ⟨(i 1).val / 2, by have h : (i 1).val < 16 := (i 1).isLt; omega⟩ := by decide +kernel
theorem sem_zs10 : ∀ (i : grid0.Coords) (inb : ∀ a, k0_off10 i a + S1.size a ≤ S8.size a),
    ((cc0_scratch6.slice (Rect.unit (s := S8) (k0_off10 i) S1.size inb)).squeeze S_ squeezes_S1_S_).sem = zsS ⟨(i 1).val / 2, by have h : (i 1).val < 16 := (i 1).isLt; omega⟩ := by decide +kernel
theorem sem_zr10 : ∀ (i : grid0.Coords) (inb : ∀ a, k0_off10 i a + S1.size a ≤ S8.size a),
    ((cc0_scratch7.slice (Rect.unit (s := S8) (k0_off10 i) S1.size inb)).squeeze S_ squeezes_S1_S_).sem = zrS ⟨(i 1).val / 2, by have h : (i 1).val < 16 := (i 1).isLt; omega⟩ := by decide +kernel

end Cert.MeshProof
end
-- ==== Proof.Slots.lean ====
/-
  What a device holds between two grid points: for each of the sixteen rows and of the eight column groups, the
  stage its transfer has come to, and the steps that take a transfer from one stage to the next.
-/
module

public import proofs.«01_k».proof.Proof.Views

@[expose] public section

noncomputable section

namespace Cert.MeshProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx (ix2 ix3 eq_ix2 eq_ix3)

variable {F : FTy → Type} [FloatOps F]

local notation "𝕄" => MT nD τ sig Unit (Elt F) ℕ UU ℕ

abbrev 𝒱₀ : Variants := Variants.none

variable (xA : Dev nD → Fin 48 → Vec F S1x1024x4096 .bf16) (xW : Dev nD → Fin 48 → Vec F S4096x256 .bf16)

/-! ## The records of the cells -/

/-- The cells of a device: the barrier's (none) and those of the region's own semaphores. -/
abbrev kcell (ck : Dev nD × Option KI) : GSem nD τ sig :=
  match ck.2 with
  | none => barCell ck.1
  | some k => ((ck.1 : Thread nD τ), osem k)

def recs (κ : Dev nD × Option KI → ℕ) : sProp 𝕄 :=
  bigSep Finset.univ fun ck : Dev nD × Option KI => cellInv ER (sched xA xW) (κ ck) (kcell ck)
instance recs_persistent (κ : Dev nD × Option KI → ℕ) : BI.Persistent (recs xA xW κ) := by unfold recs; infer_instance
theorem rec_at (κ : Dev nD × Option KI → ℕ) (ck : Dev nD × Option KI) :
    recs xA xW κ ⊢ cellInv ER (sched xA xW) (κ ck) (kcell ck) := bigSep_elim (Finset.mem_univ ck)

/-! ## The stages of a row and of a group -/

section Stages
variable (c : Dev nD)

/-- A row before its copy is sent: what the sender has of its own, -/
def xOwn (j : Fin 16) : sProp 𝕄 :=
  iprop((∃ f, pXs c j f) ∗ dutyTok ER (xsCell c j) 0 true ∗ dutyTok ER (xrCell (xp c) j) 0 true
    ∗ atPos ER (xsCell c j) 0 ∅ 0 ∗ atPos ER (xrCell c j) 0 ∅ 0 ∗ reached ER (xsCell c j) 0 ∗ cred (tallyAt (xrCell c j) () NX))
/-- and what a device gives its partner: the landing row. -/
def xGive (j : Fin 16) : sProp 𝕄 := iprop((∃ f, pXr c j f) ∗ reached ER (xrCell c j) 0)
/-- A row under way. -/
def xFly (j : Fin 16) : sProp 𝕄 :=
  iprop(cred (tallyAt (xsCell c j) () NX) ∗ atPos ER (xsCell c j) 0 ∅ 0 ∗ atPos ER (xrCell c j) 0 ∅ 0 ∗ cred (tallyAt (xrCell c j) () NX))
/-- A row whose two waits are over. -/
def xDone (j : Fin 16) : sProp 𝕄 :=
  iprop((∃ f, pXs c j f) ∗ (∃ f, pXr c j f) ∗ semVal (xsCell c j) 0 ∗ semVal (xrCell c j) 0)
/-- Row j when step t begins. -/
def xslot (t : ℕ) (j : Fin 16) : sProp 𝕄 :=
  if t ≤ j.val then iprop(xOwn c j ∗ xGive (xp c) j) else if t ≤ 16 + j.val then xFly c j else xDone c j

/-- A group before its copy is sent: after its even step its even tile is computed. -/
def zOwn (t : ℕ) (g : Fin 8) : sProp 𝕄 :=
  iprop((∃ f, ⌜16 + 2 * g.val < t → ∀ i ∈ sT (2 * g.val), f i = FN xA xW c i⌝ ∗ pFn c g f)
    ∗ dutyTok ER (zsCell c g) 0 true ∗ dutyTok ER (zrCell (zp c) g) 0 true
    ∗ atPos ER (zsCell c g) 0 ∅ 0 ∗ atPos ER (zrCell c g) 0 ∅ 0 ∗ reached ER (zsCell c g) 0 ∗ cred (tallyAt (zrCell c g) () NZ))
def zGive (g : Fin 8) : sProp 𝕄 := iprop((∃ f, pRz c g f) ∗ reached ER (zrCell c g) 0)
def zFly (g : Fin 8) : sProp 𝕄 :=
  iprop(cred (tallyAt (zsCell c g) () NZ) ∗ atPos ER (zsCell c g) 0 ∅ 0 ∗ atPos ER (zrCell c g) 0 ∅ 0 ∗ cred (tallyAt (zrCell c g) () NZ))
def zDone (g : Fin 8) : sProp 𝕄 :=
  iprop((∃ f, pFn c g f) ∗ pRz c g (RZ xA xW c) ∗ semVal (zsCell c g) 0 ∗ semVal (zrCell c g) 0)
/-- Group g when step t begins. -/
def zslot (t : ℕ) (g : Fin 8) : sProp 𝕄 :=
  if t ≤ 16 + 2 * g.val + 1 then iprop(zOwn xA xW c t g ∗ zGive (zp c) g)
  else if t ≤ 32 + 2 * g.val then zFly c g else zDone xA xW c g

/-- What the device holds when step t begins, its partners met. -/
def St (t : ℕ) : sProp 𝕄 :=
  iprop((∃ κ, recs xA xW κ) ∗ levAts L lv ∗ semVal (barCell c) 0
    ∗ (bigSep Finset.univ fun j => xslot c t j) ∗ bigSep Finset.univ fun g => zslot xA xW c t g)

/-- What it holds at the launch. -/
def Start : sProp 𝕄 :=
  iprop((∃ κ, recs xA xW κ) ∗ levAts L lv
    ∗ (dutyTok ER (barCell (xp c)) 0 true ∗ dutyTok ER (barCell (zp c)) 0 false ∗ reached ER (barCell (xp c)) 0 ∗ reached ER (barCell (zp c)) 0
        ∗ atPos ER (barCell c) 0 ∅ 0 ∗ cred (tallyAt (barCell c) () 2))
    ∗ ((bigSep Finset.univ fun j => xOwn c j) ∗ bigSep Finset.univ fun j => xGive c j)
    ∗ ((bigSep Finset.univ fun g => zOwn xA xW c 0 g) ∗ bigSep Finset.univ fun g => zGive c g))

def Phi (t : ℕ) : sProp 𝕄 := if t = 0 then Start xA xW c else St xA xW c t

theorem Phi_zero : Phi xA xW c 0 = Start xA xW c := if_pos rfl
theorem Phi_pos (t : ℕ) (h : t ≠ 0) : Phi xA xW c t = St xA xW c t := if_neg h

/-! ## Passing from step to step -/

theorem xslot_before {t : ℕ} {j : Fin 16} (h : t ≤ j.val) : xslot (F := F) c t j = iprop(xOwn c j ∗ xGive (xp c) j) := if_pos h
theorem xslot_fly {t : ℕ} {j : Fin 16} (h : j.val < t) (h' : t ≤ 16 + j.val) : xslot (F := F) c t j = xFly c j := by
  unfold xslot; rw [if_neg (by omega), if_pos h']
theorem xslot_done {t : ℕ} {j : Fin 16} (h : 16 + j.val < t) : xslot (F := F) c t j = xDone c j := by
  unfold xslot; rw [if_neg (by omega), if_neg (by omega)]
theorem zslot_before {t : ℕ} {g : Fin 8} (h : t ≤ 16 + 2 * g.val + 1) : zslot xA xW c t g = iprop(zOwn xA xW c t g ∗ zGive (zp c) g) := if_pos h
theorem zslot_fly {t : ℕ} {g : Fin 8} (h : 16 + 2 * g.val + 1 < t) (h' : t ≤ 32 + 2 * g.val) : zslot xA xW c t g = zFly c g := by
  unfold zslot; rw [if_neg (by omega), if_pos h']
theorem zslot_done {t : ℕ} {g : Fin 8} (h : 32 + 2 * g.val < t) : zslot xA xW c t g = zDone xA xW c g := by
  unfold zslot; rw [if_neg (by omega), if_neg (by omega)]

/-- A row keeps its stage at a step that is not its own. -/
theorem xslot_keep (t : ℕ) (j : Fin 16) (h : t ≠ j.val) (h' : t ≠ 16 + j.val) : xslot (F := F) c (t + 1) j = xslot c t j := by
  by_cases h1 : t ≤ j.val
  · rw [xslot_before c (by omega), xslot_before c h1]
  · by_cases h2 : t ≤ 16 + j.val
    · rw [xslot_fly c (by omega) (by omega), xslot_fly c (by omega) h2]
    · rw [xslot_done c (by omega), xslot_done c (by omega)]
theorem zOwn_keep (t : ℕ) (g : Fin 8) (h : t ≠ 16 + 2 * g.val) : zOwn xA xW c (t + 1) g = zOwn xA xW c t g := by
  unfold zOwn
  rw [show (16 + 2 * g.val < t + 1) = (16 + 2 * g.val < t) from propext (by omega)]
theorem zslot_keep (t : ℕ) (g : Fin 8) (h : t ≠ 16 + 2 * g.val) (h' : t ≠ 16 + 2 * g.val + 1) (h'' : t ≠ 32 + 2 * g.val) :
    zslot xA xW c (t + 1) g = zslot xA xW c t g := by
  by_cases h1 : t ≤ 16 + 2 * g.val + 1
  · rw [zslot_before xA xW c (by omega), zslot_before xA xW c h1, zOwn_keep xA xW c t g h]
  · by_cases h2 : t ≤ 32 + 2 * g.val
    · rw [zslot_fly xA xW c (by omega) (by omega), zslot_fly xA xW c (by omega) h2]
    · rw [zslot_done xA xW c (by omega), zslot_done xA xW c (by omega)]

/-- Before the second sweep no step touches a group, -/
theorem zslots_keep (t : ℕ) (h : t < 16) : (bigSep Finset.univ fun g => zslot xA xW c (t + 1) g) = bigSep Finset.univ fun g => zslot xA xW c t g :=
  bigSep_congr fun g _ => zslot_keep xA xW c t g (by omega) (by omega) (by omega)
/-- nor an odd step of the third. -/
theorem zslots_keep' (t : ℕ) (h : 32 ≤ t) (h' : t % 2 = 1) :
    (bigSep Finset.univ fun g => zslot xA xW c (t + 1) g) = bigSep Finset.univ fun g => zslot xA xW c t g :=
  bigSep_congr fun g _ => zslot_keep xA xW c t g (by omega) (by omega) (by omega)
/-- The third sweep touches no row. -/
theorem xslots_keep (t : ℕ) (h : 32 ≤ t) : (bigSep Finset.univ fun j => xslot (F := F) c (t + 1) j) = bigSep Finset.univ fun j => xslot c t j :=
  bigSep_congr fun j _ => xslot_keep c t j (by omega) (by omega)

/-- A step of the first two sweeps changes one row. -/
theorem xslots_turn (t : ℕ) (j : Fin 16) (h : t < 32) (hj : j.val = t % 16) :
    (bigSep Finset.univ fun j => xslot (F := F) c t j) ⊢ iprop(xslot c t j ∗ (xslot c (t + 1) j -∗ bigSep Finset.univ fun j => xslot c (t + 1) j)) :=
  bigSep_univ_update (Φ := fun j => xslot (F := F) c t j) (Ψ := fun j => xslot (F := F) c (t + 1) j) j fun i hi => by
    have : i.val ≠ j.val := fun e => hi (Fin.ext e)
    exact xslot_keep c t i (by omega) (by omega)
/-- A step of the second sweep changes one group. -/
theorem zslots_turn (t : ℕ) (g : Fin 8) (h : 16 ≤ t) (hg : g.val = t % 16 / 2) :
    (bigSep Finset.univ fun g => zslot xA xW c t g)
      ⊢ iprop(zslot xA xW c t g ∗ (zslot xA xW c (t + 1) g -∗ bigSep Finset.univ fun g => zslot xA xW c (t + 1) g)) :=
  bigSep_univ_update (Φ := fun g => zslot xA xW c t g) (Ψ := fun g => zslot xA xW c (t + 1) g) g fun i hi => by
    have : i.val ≠ g.val := fun e => hi (Fin.ext e)
    exact zslot_keep xA xW c t i (by omega) (by omega) (by omega)

/-! ## The steps of the protocol -/

/-- A wait for the whole of a cell's only round, and the cell closed: its payload, and its counter at zero. -/
theorem wp_wait_close {α : Type} {Q : α → sProp 𝕄} (κ : ℕ) (sm : SemLoc sig) (n : ℕ) {w : TpuEff nD τ sig (Elt F) Λ₀ .tc PUnit}
    (hw : ∀ K : PUnit → sProp 𝕄, wpE (defs₀ (F := F)) 𝒱₀ (c : Thread nD τ) none Set.univ w K = waitSpec (c : Thread nD τ) Set.univ sm n K)
    (hn : n = (sched xA xW).expect ((c : Thread nD τ), sm) 0) {k : PUnit → Prog (TpuEff nD τ sig (Elt F) Λ₀ .tc) α}
    (O : CellTallies nD τ sig Unit) (W : Waits sig Unit) :
    iprop(cellInv ER (sched xA xW) κ ((c : Thread nD τ), sm) ∗ cred (tallyAt ((c : Thread nD τ), sm) () n) ∗ owes (c : Thread nD τ) O W
        ∗ MayWait (c : Thread nD τ) sm () O ∗ atPos ER ((c : Thread nD τ), sm) 0 ∅ 0)
      ⊢ iprop(((owes (c : Thread nD τ) O (insert (sm, ()) W) ∗ semVal ((c : Thread nD τ), sm) 0
              ∗ bigSep ((sched xA xW).duties ((c : Thread nD τ), sm) 0 \ ∅) fun u => (sched xA xW).payload ((c : Thread nD τ), sm) 0 u)
            -∗ wp frame (wpE (defs₀ (F := F)) 𝒱₀ (c : Thread nD τ) none) Set.univ (k ⟨⟩) Q)
          -∗ wp frame (wpE (defs₀ (F := F)) 𝒱₀ (c : Thread nD τ) none) Set.univ (.op w k) Q) := by
  iintro ⟨#HI, Hc, HO, Hm, Hat⟩ Hk
  iapply (Rounds.wp_wait_rest_token 𝒱₀ ER (sched xA xW) (c : Thread nD τ) none (κ := κ)
      hw (Set.mem_univ _) () (O := O) (W := W) (R := 0) (m := 0) (T := ∅) (by rw [Nat.zero_add, hn])) $$ [Hc HO Hm Hat]
  · isplitr; · iexact HI
    isplitl [Hc]; · iexact Hc
    isplitl [HO]; · iexact HO
    isplitl [Hm]; · iexact Hm
    iexact Hat
  iintro ⟨HO, Hat, -, Hpay⟩
  imod (Rounds.cell_close ER (sched xA xW) (Set.mem_univ κ) (fun h => h) (R := 0 + 1) (duties_later xA xW _)) $$ [Hat] with Hz
  · isplitr; · iexact HI
    iexact Hat
  iapply Hk
  isplitl [HO]; · iexact HO
  isplitl [Hz]; · iexact Hz
  iexact Hpay

theorem barPay_x : (barPay (xp c) true : sProp 𝕄) = bigSep Finset.univ fun j : Fin 16 => xGive c j := by
  unfold barPay xGive; rw [xp_xp]
theorem barPay_z : (barPay (zp c) false : sProp 𝕄) = bigSep Finset.univ fun g : Fin 8 => zGive c g := by
  unfold barPay zGive; rw [zp_zp]

/-- The meeting with both partners: each is given this device's landing buffer for it, and gives its own. -/
theorem wp_meet {α : Type} {Q : α → sProp 𝕄} (n₁ n₂ : Dev nD) (h₁ : n₁ = xp c) (h₂ : n₂ = zp c) {k : PUnit → Prog (TpuEff nD τ sig (Elt F) Λ₀ .tc) α} (W : Waits sig Unit) :
    iprop(Start xA xW c ∗ owes (c : Thread nD τ) (O₀ c) W)
      ⊢ iprop(((∃ W', St xA xW c 0 ∗ owes (c : Thread nD τ) (owX c 0 + owZ c 0) W')
            -∗ wp frame (wpE (defs₀ (F := F)) 𝒱₀ (c : Thread nD τ) none) Set.univ (k ⟨⟩) Q)
          -∗ wp frame (wpE (defs₀ (F := F)) 𝒱₀ (c : Thread nD τ) none) Set.univ
            (.op (.semSignal (n₁ : Thread nD τ) barS 1) fun _ => .op (.semSignal (n₂ : Thread nD τ) barS 1) fun _ => .op (.semWait barS 2) k) Q) := by
  subst h₁ h₂
  unfold Start
  iintro ⟨⟨⟨%κ, #HI⟩, #Hlev, ⟨HtX, HtZ, #HrX, #HrZ, Hat, Hc⟩, ⟨Hxo, Hxg⟩, ⟨Hzo, Hzg⟩⟩, HO⟩ Hk
  iapply (Rounds.wp_signal 𝒱₀ ER (sched xA xW) (c : Thread nD τ) none (dst := (xp c : Thread nD τ)) (κ := κ (xp c, none))
      (by rw [duties_bar]; exact Finset.mem_univ true) (amount_bar xA xW (xp c) true) () ((owX c 0 + owZ c 0) + tallyAt (barCell (zp c)) () 1) rfl)
    $$ [HO HtX Hxg]
  · isplitr; · iapply (rec_at xA xW κ (xp c, none)); iexact HI
    isplitl [HO]; · iexact HO
    isplitl [HtX]; · iexact HtX
    isplitl [Hxg]
    · rw [payload_bar, barPay_x]; iexact Hxg
    · iexact HrX
  iintro HO
  iapply (Rounds.wp_signal 𝒱₀ ER (sched xA xW) (c : Thread nD τ) none (dst := (zp c : Thread nD τ)) (κ := κ (zp c, none))
      (by rw [duties_bar]; exact Finset.mem_univ false) (amount_bar xA xW (zp c) false) () (owX c 0 + owZ c 0) rfl)
    $$ [HO HtZ Hzg]
  · isplitr; · iapply (rec_at xA xW κ (zp c, none)); iexact HI
    isplitl [HO]; · iexact HO
    isplitl [HtZ]; · iexact HtZ
    isplitl [Hzg]
    · rw [payload_bar, barPay_z]; iexact Hzg
    · iexact HrZ
  iintro HO
  iapply (wp_wait_close xA xW c (κ (c, none)) (.reg barS) 2 (wpE_semWait_eq 𝒱₀ (c : Thread nD τ) none Set.univ)
      (expect_bar xA xW c).symm (owX c 0 + owZ c 0) W) $$ [Hc HO Hat]
  · isplitr; · iapply (rec_at xA xW κ (c, none)); iexact HI
    isplitl [Hc]; · iexact Hc
    isplitl [HO]; · iexact HO
    isplitr
    · iapply (mayWait_of c (.reg barS) 1 _ ((above_owX c 0).add ((above_owZ c 0).mono (by decide))) (by rw [lv_bar])); iexact Hlev
    iexact Hat
  iintro ⟨HO, Hz, Hpay⟩
  ihave Hp := (Entails.of_eq (rest_bar xA xW c)) $$ Hpay
  icases Hp with ⟨Hpx, Hpz⟩
  iapply Hk
  iexists (insert (SemLoc.reg barS, ()) W)
  isplitr [HO]
  · unfold St
    isplitr; · iexists κ; iexact HI
    isplitr; · iexact Hlev
    isplitl [Hz]; · iexact Hz
    isplitl [Hxo Hpx]
    · rw [bigSep_congr fun (j : Fin 16) _ => xslot_before (F := F) c (Nat.zero_le j.val), bigSep_sep']
      isplitl [Hxo]; · iexact Hxo
      unfold barPay xGive; iexact Hpx
    · rw [bigSep_congr fun (g : Fin 8) _ => zslot_before xA xW c (t := 0) (g := g) (by omega), bigSep_sep']
      isplitl [Hzo]; · iexact Hzo
      unfold barPay zGive; iexact Hpz
  iexact HO

end Stages

end Cert.MeshProof
end
-- ==== Proof.Steps.lean ====
/-
  The body's blocks, one lemma each: a load and a store of a staged block, the sending of a row and of a group,
  the first sweep's step, the second's and the third's.
-/
module

public import proofs.«01_k».proof.Proof.Slots
public import Idealize.ShloMosaic.Lib.VecWindow

@[expose] public section

noncomputable section

namespace Cert.MeshProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx (ix2 ix3 eq_ix2 eq_ix3)

variable {F : FTy → Type} [FloatOps F]

local notation "𝕄" => MT nD τ sig Unit (Elt F) ℕ UU ℕ

variable (xA : Dev nD → Fin 48 → Vec F S1x1024x4096 .bf16) (xW : Dev nD → Fin 48 → Vec F S4096x256 .bf16) (c : Dev nD)

/-! ## Staged blocks -/

theorem wp_load_owns {α : Type} {Q : α → sProp 𝕄} {s : Shape} {e : EltTy} (m : Memref sig .tc .vmem s e) (X : s.Idx → Elt F e) {off : Fin s.rank → ℕ}
    {inb : ∀ a, off a + s.size a ≤ s.size a} {hl : m.view.LoadsAt (Rect.unit off s.size inb).toLoadRect}
    {k : (s.Idx → Elt F e) → Prog (TpuEff nD τ sig (Elt F) Λ₀ .tc) α} :
    (owns (c : Thread nD τ) m fullShare X : sProp 𝕄)
      ⊢ iprop((owns (c : Thread nD τ) m fullShare X -∗ wp frame (wpE (defs₀ (F := F)) 𝒱₀ (c : Thread nD τ) none) Set.univ (k X) Q) -∗ wp frame (wpE (defs₀ (F := F)) 𝒱₀ (c : Thread nD τ) none) Set.univ (.op (.load m (Rect.unit off s.size inb).toLoadRect hl) k) Q) := by
  unfold owns
  iintro ⟨%f, %hf, H⟩ Hk
  iapply (wp_load 𝒱₀ (c : Thread nD τ) none Set.univ (m := m) (View.setOn_subset_set _ _)) $$ H; iintro H
  rw [View.readAt_full m.view f inb, hf]
  iapply Hk
  iexists f
  isplitr; · ipureintro; exact hf
  iexact H

theorem wp_store_owns {α : Type} {Q : α → sProp 𝕄} {s : Shape} {e : EltTy} (m : Memref sig .tc .vmem s e) (Y w : s.Idx → Elt F e) {off : Fin s.rank → ℕ}
    {inb : ∀ a, off a + s.size a ≤ s.size a} {hx : (m.access (Rect.unit off s.size inb)).Stores Finset.univ}
    {hm : (Finset.univ : Finset (Rect.unit off s.size inb).shape.Idx) = Finset.univ ∨ ∀ a, (Rect.unit off s.size inb).stride a = 1}
    {k : PUnit → Prog (TpuEff nD τ sig (Elt F) Λ₀ .tc) α} :
    (owns (c : Thread nD τ) m fullShare Y : sProp 𝕄)
      ⊢ iprop((owns (c : Thread nD τ) m fullShare w -∗ wp frame (wpE (defs₀ (F := F)) 𝒱₀ (c : Thread nD τ) none) Set.univ (k ⟨⟩) Q) -∗ wp frame (wpE (defs₀ (F := F)) 𝒱₀ (c : Thread nD τ) none) Set.univ (.op (.store m (Rect.unit off s.size inb) w Finset.univ hx hm) k) Q) := by
  unfold owns
  iintro ⟨%f, %hf, H⟩ Hk
  have hsub : (m.access (Rect.unit off s.size inb)).setOn Finset.univ ⊆ m.view.set := by
    rw [View.setOn_univ]; exact View.set_slice_subset _ _
  iapply (wp_store 𝒱₀ (c : Thread nD τ) none Set.univ (m := m) (r := Rect.unit off s.size inb) (Mk := Finset.univ) hsub) $$ H; iintro H
  iapply Hk
  iexists ((m.access (Rect.unit off s.size inb)).write (Elt F) f w Finset.univ)
  isplitr
  · ipureintro
    rw [← View.readAt_full m.view _ inb]
    exact View.read_write_univ (v := m.access (Rect.unit off s.size inb)) f w
  iexact H

/-! ## The two copies -/

theorem wp_send_row {α : Type} {Q : α → sProp 𝕄} (κ : Dev nD × Option KI → ℕ) (j : Fin 16) (n : Dev nD) (hn : n = xp c) {off : Fin 3 → ℕ} (ho : off = ![j.val, 0, 0])
    (inb : ∀ a, off a + S1x1024x256.size a ≤ S16x1024x256.size a) (s₁ s₂ : DmaSem sig) (h₁ : s₁ = xsS j) (h₂ : s₂ = xrS j)
    {hsc : (rRow off inb : Memref sig (Dev.tc n : Thread nD τ).2.kind .vmem S1024x256 .bf16).view.ref.isScScratch = false}
    {hsrc : (sRow off inb).view.WordExact} {hdst : (rRow off inb).view.WordExact}
    {hsem : DmaTarget.Typed .vmem (.dma s₂) (.remote (Dev.tc n : Thread nD τ) (rRow off inb) (.dma s₁) hsc)}
    {k : PUnit → Prog (TpuEff nD τ sig (Elt F) Λ₀ .tc) α} (fs fd : BX (F := F)) (hfs : ∀ i ∈ sX j.val, fs i = XS xA xW c i)
    (O O' : CellTallies nD τ sig Unit) (hO : O = O' + tallyAt (xrCell (xp c) j) () NX) (W : Waits sig Unit) :
    iprop(recs xA xW κ ∗ pXs c j fs ∗ pXr (xp c) j fd ∗ owes (c : Thread nD τ) O W
        ∗ dutyTok ER (xsCell c j) 0 true ∗ reached ER (xsCell c j) 0 ∗ dutyTok ER (xrCell (xp c) j) 0 true ∗ reached ER (xrCell (xp c) j) 0)
      ⊢ iprop(((cred (tallyAt (xsCell c j) () NX) ∗ owes (c : Thread nD τ) O' W) -∗ wp frame (wpE (defs₀ (F := F)) 𝒱₀ (c : Thread nD τ) none) Set.univ (k ⟨⟩) Q)
          -∗ wp frame (wpE (defs₀ (F := F)) 𝒱₀ (c : Thread nD τ) none) Set.univ (.op (.enqueueDma (sRow off inb) (.remote (Dev.tc n : Thread nD τ) (rRow off inb) (.dma s₁) hsc) (.dma s₂) hsrc hdst hsem) k) Q) := by
  subst hn h₁ h₂
  have key := Rounds.wp_send_pointsTo 𝒱₀ ER (sched xA xW) (c : Thread nD τ) none (κ₁ := κ (c, some (.inl (.inl j)))) (κ₂ := κ (xp c, some (.inl (.inr j))))
    (Γ := .empty) (defs := defs₀ (F := F)) (c' := (xp c : Thread nD τ)) (src := sRow off inb) (dst := rRow off inb) (hsc := hsc) (hsrc := hsrc) (hdst := hdst) (hsem := hsem) (k := k) (Q := Q) (q := fullShare)
    (r₁ := 0) (r₂ := 0) (d₁ := true) (d₂ := true) (fs := fs) (fd := fd)
    (by rw [duties_xs]; exact Finset.mem_singleton_self _) (by rw [duties_xr]; exact Finset.mem_singleton_self _)
    () () NX rfl (amount_xs xA xW c j true) (amount_xr xA xW (xp c) j true) O' hO (W := W) (Es := Set.univ)
    (by rw [payload_xs, sRow_set ho inb]; exact Entails.of_eq (pointsTo_congr hfs))
    (by
      rw [payload_xr, rRow_set ho inb]
      exact Entails.of_eq (pointsTo_congr fun i hi => (rRow_copy ho inb fd fs i hi).trans ((hfs i hi).trans (by unfold RX; rw [xp_xp]))))
  rw [sRow_set ho inb, rRow_set ho inb] at key
  iintro ⟨#HI, Hs, Hd, HO, Ht₁, Hr₁, Ht₂, Hr₂⟩ Hk
  iapply key $$ [Hs Hd HO Ht₁ Hr₁ Ht₂ Hr₂] [Hk]
  · isplitr; · iapply (rec_at xA xW κ (c, some (.inl (.inl j)))); iexact HI
    isplitr; · iapply (rec_at xA xW κ (xp c, some (.inl (.inr j)))); iexact HI
    isplitl [Hs]; · iexact Hs
    isplitl [Hd]; · iexact Hd
    isplitl [HO]; · iexact HO
    isplitl [Ht₁]; · iexact Ht₁
    isplitl [Hr₁]; · iexact Hr₁
    isplitl [Ht₂]; · iexact Ht₂
    iexact Hr₂
  iexact Hk

theorem wp_send_grp {α : Type} {Q : α → sProp 𝕄} (κ : Dev nD × Option KI → ℕ) (g : Fin 8) (n : Dev nD) (hn : n = zp c) {off : Fin 2 → ℕ} (ho : off = ![0, 512 * g.val])
    (inb : ∀ a, off a + S1024x512.size a ≤ S1024x4096.size a) (s₁ s₂ : DmaSem sig) (h₁ : s₁ = zsS g) (h₂ : s₂ = zrS g)
    {hsc : (rGrp off inb : Memref sig (Dev.tc n : Thread nD τ).2.kind .vmem S1024x512 .bf16).view.ref.isScScratch = false}
    {hsrc : (fGrp off inb).view.WordExact} {hdst : (rGrp off inb).view.WordExact}
    {hsem : DmaTarget.Typed .vmem (.dma s₂) (.remote (Dev.tc n : Thread nD τ) (rGrp off inb) (.dma s₁) hsc)}
    {k : PUnit → Prog (TpuEff nD τ sig (Elt F) Λ₀ .tc) α} (fs fd : BZ (F := F)) (hfs : ∀ i ∈ sZ g.val, fs i = FN xA xW c i)
    (O O' : CellTallies nD τ sig Unit) (hO : O = O' + tallyAt (zrCell (zp c) g) () NZ) (W : Waits sig Unit) :
    iprop(recs xA xW κ ∗ pFn c g fs ∗ pRz (zp c) g fd ∗ owes (c : Thread nD τ) O W
        ∗ dutyTok ER (zsCell c g) 0 true ∗ reached ER (zsCell c g) 0 ∗ dutyTok ER (zrCell (zp c) g) 0 true ∗ reached ER (zrCell (zp c) g) 0)
      ⊢ iprop(((cred (tallyAt (zsCell c g) () NZ) ∗ owes (c : Thread nD τ) O' W) -∗ wp frame (wpE (defs₀ (F := F)) 𝒱₀ (c : Thread nD τ) none) Set.univ (k ⟨⟩) Q)
          -∗ wp frame (wpE (defs₀ (F := F)) 𝒱₀ (c : Thread nD τ) none) Set.univ (.op (.enqueueDma (fGrp off inb) (.remote (Dev.tc n : Thread nD τ) (rGrp off inb) (.dma s₁) hsc) (.dma s₂) hsrc hdst hsem) k) Q) := by
  subst hn h₁ h₂
  have key := Rounds.wp_send_pointsTo 𝒱₀ ER (sched xA xW) (c : Thread nD τ) none (κ₁ := κ (c, some (.inr (.inl g)))) (κ₂ := κ (zp c, some (.inr (.inr g))))
    (Γ := .empty) (defs := defs₀ (F := F)) (c' := (zp c : Thread nD τ)) (src := fGrp off inb) (dst := rGrp off inb) (hsc := hsc) (hsrc := hsrc) (hdst := hdst) (hsem := hsem) (k := k) (Q := Q) (q := fullShare)
    (r₁ := 0) (r₂ := 0) (d₁ := true) (d₂ := true) (fs := fs) (fd := fd)
    (by rw [duties_zs]; exact Finset.mem_singleton_self _) (by rw [duties_zr]; exact Finset.mem_singleton_self _)
    () () NZ rfl (amount_zs xA xW c g true) (amount_zr xA xW (zp c) g true) O' hO (W := W) (Es := Set.univ)
    (by rw [payload_zs, fGrp_set ho inb]; exact Entails.of_eq (pointsTo_congr hfs))
    (by
      rw [payload_zr, rGrp_set ho inb]
      exact Entails.of_eq (pointsTo_congr fun i hi => (rGrp_copy ho inb fd fs i hi).trans ((hfs i hi).trans (by unfold RZ; rw [zp_zp]))))
  rw [fGrp_set ho inb, rGrp_set ho inb] at key
  iintro ⟨#HI, Hs, Hd, HO, Ht₁, Hr₁, Ht₂, Hr₂⟩ Hk
  iapply key $$ [Hs Hd HO Ht₁ Hr₁ Ht₂ Hr₂] [Hk]
  · isplitr; · iapply (rec_at xA xW κ (c, some (.inr (.inl g)))); iexact HI
    isplitr; · iapply (rec_at xA xW κ (zp c, some (.inr (.inr g)))); iexact HI
    isplitl [Hs]; · iexact Hs
    isplitl [Hd]; · iexact Hd
    isplitl [HO]; · iexact HO
    isplitl [Ht₁]; · iexact Ht₁
    isplitl [Hr₁]; · iexact Hr₁
    isplitl [Ht₂]; · iexact Ht₂
    iexact Hr₂
  iexact Hk

/-! ## The blocks -/

/-- First sweep: the product is stored in its row and the row is sent. -/
theorem wp_row {α : Type} {Q : α → sProp 𝕄} (t : ℕ) (j : Fin 16) (ht : t = j.val) (a : Vec F S1x1024x4096 .bf16) (b : Vec F S4096x256 .bf16)
    (ha : a = xA c (pt0 j)) (hb : b = xW c (pt0 j)) (n : Dev nD) (hn : n = xp c)
    {off off' : Fin 3 → ℕ} (ho : off = ![j.val, 0, 0]) (ho' : off' = ![j.val, 0, 0])
    (inb : ∀ a, off a + S1x1024x256.size a ≤ S16x1024x256.size a) (inb' : ∀ a, off' a + S1x1024x256.size a ≤ S16x1024x256.size a)
    (s₁ s₂ : DmaSem sig) (h₁ : s₁ = xsS j) (h₂ : s₂ = xrS j)
    {hl : (Memref.whole cc0_scratch0 : Memref sig .tc .vmem S16x1024x256 .bf16).view.LoadsAt (rowR off inb).toLoadRect}
    {hx : ((Memref.whole cc0_scratch0 : Memref sig .tc .vmem S16x1024x256 .bf16).access (rowR off inb)).Stores Finset.univ}
    {hm : (Finset.univ : Finset (rowR off inb).shape.Idx) = Finset.univ ∨ ∀ a, (rowR off inb).stride a = 1}
    {hsc : (rRow off' inb' : Memref sig (Dev.tc n : Thread nD τ).2.kind .vmem S1024x256 .bf16).view.ref.isScScratch = false}
    {hsrc : (sRow off' inb').view.WordExact} {hdst : (rRow off' inb').view.WordExact}
    {hsem : DmaTarget.Typed .vmem (.dma s₂) (.remote (Dev.tc n : Thread nD τ) (rRow off' inb') (.dma s₁) hsc)}
    {k : PUnit → Prog (TpuEff nD τ sig (Elt F) Λ₀ .tc) α} (W : Waits sig Unit) :
    iprop(St xA xW c t ∗ owes (c : Thread nD τ) (owX c t + owZ c t) W)
      ⊢ iprop(((∃ W', St xA xW c (t + 1) ∗ owes (c : Thread nD τ) (owX c (t + 1) + owZ c (t + 1)) W') -∗ wp frame (wpE (defs₀ (F := F)) 𝒱₀ (c : Thread nD τ) none) Set.univ (k ⟨⟩) Q)
          -∗ wp frame (wpE (defs₀ (F := F)) 𝒱₀ (c : Thread nD τ) none) Set.univ (.op (.load (Memref.whole cc0_scratch0 : Memref sig .tc .vmem S16x1024x256 .bf16) (rowR off inb).toLoadRect hl) fun _ =>
              .op (.store (Memref.whole cc0_scratch0 : Memref sig .tc .vmem S16x1024x256 .bf16) (rowR off inb) (k0_pay1 a b) Finset.univ hx hm) fun _ =>
              .op (.enqueueDma (sRow off' inb') (.remote (Dev.tc n : Thread nD τ) (rRow off' inb') (.dma s₁) hsc) (.dma s₂) hsrc hdst hsem) k) Q) := by
  subst ht ha hb
  have hj := j.isLt
  unfold St
  iintro ⟨⟨⟨%κ, #HI⟩, #Hlev, Hz, Hxs, Hzs⟩, HO⟩ Hk
  ihave Hx := (xslots_turn (F := F) c j.val j (by omega) (by omega)) $$ Hxs
  rw [xslot_before (F := F) c (le_refl j.val), xslot_fly (F := F) c (t := j.val + 1) (j := j) (by omega) (by omega)]
  unfold xOwn xGive xFly
  icases Hx with ⟨⟨⟨⟨%f, Hf⟩, Ht₁, Ht₂, Hp₁, Hp₂, #Hr₁, Hc⟩, ⟨%fd, Hd⟩, #Hr₂⟩, Hback⟩
  iapply (wp_load 𝒱₀ (c : Thread nD τ) none Set.univ (m := (Memref.whole cc0_scratch0 : Memref sig .tc .vmem S16x1024x256 .bf16))
    ((View.set_slice _ _).symm.trans (rowR_setOn0 ho inb)).subset) $$ Hf; iintro Hf
  iapply (wp_store 𝒱₀ (c : Thread nD τ) none Set.univ (m := (Memref.whole cc0_scratch0 : Memref sig .tc .vmem S16x1024x256 .bf16)) (r := rowR off inb) (Mk := Finset.univ)
    (by rw [View.setOn_univ]; exact (rowR_setOn0 ho inb).subset)) $$ Hf; iintro Hf
  iapply (wp_send_row xA xW c κ j n hn ho' inb' s₁ s₂ h₁ h₂ _ fd
    (fun i hi => (sRow_store ho inb f (k0_pay1 (xA c (pt0 j)) (xW c (pt0 j))) i hi).trans (XS_row xA xW c j i hi).symm)
    (owX c j.val + owZ c j.val) (owX c (j.val + 1) + owZ c (j.val + 1))
    (by rw [owX_step c j, owZ_same c (j.val + 1) j.val (fun g => by omega)]; exact add_right_comm _ _ _) W) $$ [Hf Hd HO Ht₁ Ht₂]
  · isplitr; · iexact HI
    isplitl [Hf]; · iexact Hf
    isplitl [Hd]; · iexact Hd
    isplitl [HO]; · iexact HO
    isplitl [Ht₁]; · iexact Ht₁
    isplitr; · iexact Hr₁
    isplitl [Ht₂]; · iexact Ht₂
    iexact Hr₂
  iintro ⟨Hcs, HO⟩
  iapply Hk
  iexists W
  isplitr [HO]
  · isplitr; · iexists κ; iexact HI
    isplitr; · iexact Hlev
    isplitl [Hz]; · iexact Hz
    isplitl [Hback Hcs Hp₁ Hp₂ Hc]
    · iapply Hback
      isplitl [Hcs]; · iexact Hcs
      isplitl [Hp₁]; · iexact Hp₁
      isplitl [Hp₂]; · iexact Hp₂
      iexact Hc
    · rw [zslots_keep xA xW c j.val (by omega)]; iexact Hzs
  iexact HO

/-- The wait of a transfer's semaphore that counts n units, and its cell closed. -/
theorem wp_wait_dma {α : Type} {Q : α → sProp 𝕄} (κ : ℕ) (q : DmaSem sig) (n : ℕ) {s s' : Shape} {e e' : EltTy}
    {src : Memref sig .tc .vmem s' e'} {dst : Memref sig .tc .vmem s e} {hsrc : src.view.WordExact} {hdst : dst.view.WordExact}
    (hc : dst.view.dmaCredit = n) (hn : n = (sched xA xW).expect ((c : Thread nD τ), .dma q) 0)
    {k : PUnit → Prog (TpuEff nD τ sig (Elt F) Λ₀ .tc) α} (O : CellTallies nD τ sig Unit) (W : Waits sig Unit) :
    iprop(cellInv ER (sched xA xW) κ ((c : Thread nD τ), .dma q) ∗ cred (tallyAt ((c : Thread nD τ), .dma q) () n) ∗ owes (c : Thread nD τ) O W
        ∗ MayWait (c : Thread nD τ) (.dma q) () O ∗ atPos ER ((c : Thread nD τ), .dma q) 0 ∅ 0)
      ⊢ iprop(((owes (c : Thread nD τ) O (insert (.dma q, ()) W) ∗ semVal ((c : Thread nD τ), .dma q) 0
              ∗ bigSep ((sched xA xW).duties ((c : Thread nD τ), .dma q) 0 \ ∅) fun u => (sched xA xW).payload ((c : Thread nD τ), .dma q) 0 u)
            -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 q src dst hsrc hdst) k) Q) :=
  wp_wait_close xA xW c κ (.dma q) n (fun K => (wpE_waitDma2_eq 𝒱₀ (c : Thread nD τ) none Set.univ K).trans (by rw [hc])) hn O W

theorem sRow_credit {off : Fin 3 → ℕ} (inb : ∀ a, off a + S1x1024x256.size a ≤ S16x1024x256.size a) : (sRow off inb).view.dmaCredit = NX := rfl
theorem rRow_credit {off : Fin 3 → ℕ} (inb : ∀ a, off a + S1x1024x256.size a ≤ S16x1024x256.size a) : (rRow off inb).view.dmaCredit = NX := rfl
theorem fGrp_credit {off : Fin 2 → ℕ} (inb : ∀ a, off a + S1024x512.size a ≤ S1024x4096.size a) : (fGrp off inb).view.dmaCredit = NZ := rfl
theorem rGrp_credit {off : Fin 2 → ℕ} (inb : ∀ a, off a + S1024x512.size a ≤ S1024x4096.size a) : (rGrp off inb).view.dmaCredit = NZ := rfl

/-- Second sweep: both waits of a row. -/
theorem wp_arrive {α : Type} {Q : α → sProp 𝕄} (κ : Dev nD × Option KI → ℕ) (j : Fin 16)
    {off : Fin 3 → ℕ} (inb : ∀ a, off a + S1x1024x256.size a ≤ S16x1024x256.size a)
    (s₁ s₂ : DmaSem sig) (h₁ : s₁ = xsS j) (h₂ : s₂ = xrS j)
    {e₁ : (rRow off inb).view.WordExact} {e₂ : (sRow off inb).view.WordExact} {e₃ : (sRow off inb).view.WordExact} {e₄ : (rRow off inb).view.WordExact}
    {k : PUnit → Prog (TpuEff nD τ sig (Elt F) Λ₀ .tc) α} (O : CellTallies nD τ sig Unit) (hO : Above 2 O) (W : Waits sig Unit) :
    iprop(recs xA xW κ ∗ levAts L lv ∗ xFly c j ∗ owes (c : Thread nD τ) O W)
      ⊢ iprop(((∃ W', owes (c : Thread nD τ) O W' ∗ pXs c j (XS xA xW c) ∗ pXr c j (RX xA xW c) ∗ semVal (xsCell c j) 0 ∗ semVal (xrCell c j) 0)
              -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 s₁ (rRow off inb) (sRow off inb) e₁ e₂) fun _ => .op (.waitDma2 s₂ (sRow off inb) (rRow off inb) e₃ e₄) k) Q) := by
  subst h₁ h₂
  unfold xFly
  iintro ⟨#HI, #Hlev, ⟨Hc₁, Hp₁, Hp₂, Hc₂⟩, HO⟩ Hk
  iapply (wp_wait_dma xA xW c (κ (c, some (.inl (.inl j)))) (xsS j) NX (sRow_credit inb)
      (expect_xs xA xW c j).symm O W) $$ [Hc₁ HO Hp₁]
  · isplitr; · iapply (rec_at xA xW κ (c, some (.inl (.inl j)))); iexact HI
    isplitl [Hc₁]; · iexact Hc₁
    isplitl [HO]; · iexact HO
    isplitr; · iapply (mayWait_of c (.dma (xsS j)) 2 O hO (by rw [lv_xs]; decide)); iexact Hlev
    iexact Hp₁
  iintro ⟨HO, Hz₁, Hs⟩
  iapply (wp_wait_dma xA xW c (κ (c, some (.inl (.inr j)))) (xrS j) NX (rRow_credit inb)
      (expect_xr xA xW c j).symm O _) $$ [Hc₂ HO Hp₂]
  · isplitr; · iapply (rec_at xA xW κ (c, some (.inl (.inr j)))); iexact HI
    isplitl [Hc₂]; · iexact Hc₂
    isplitl [HO]; · iexact HO
    isplitr; · iapply (mayWait_of c (.dma (xrS j)) 2 O hO (by rw [lv_xr])); iexact Hlev
    iexact Hp₂
  iintro ⟨HO, Hz₂, Hr⟩
  ihave Hs := (Entails.of_eq (rest_xs xA xW c j)) $$ Hs
  ihave Hr := (Entails.of_eq (rest_xr xA xW c j)) $$ Hr
  iapply Hk
  iexists (insert (SemLoc.dma (xrS j), ()) (insert (SemLoc.dma (xsS j), ()) W))
  isplitl [HO]; · iexact HO
  isplitl [Hs]; · iexact Hs
  isplitl [Hr]; · iexact Hr
  isplitl [Hz₁]; · iexact Hz₁
  iexact Hz₂

/-- Second sweep: the rounded sum is stored in its tile. -/
theorem wp_tile {α : Type} {Q : α → sProp 𝕄} (j : Fin 16) (g : ℕ) (hg : g = j.val / 2) (f : BZ (F := F)) (w : Vec F S1024x256 .bf16) (hw : w = fnTile xA xW c j)
    {off : Fin 2 → ℕ} (ho : off = ![0, 256 * j.val]) (inb : ∀ a, off a + S1024x256.size a ≤ S1024x4096.size a)
    {hl : (Memref.whole cc0_scratch2 : Memref sig .tc .vmem S1024x4096 .bf16).view.LoadsAt (tileR off inb).toLoadRect}
    {hx : ((Memref.whole cc0_scratch2 : Memref sig .tc .vmem S1024x4096 .bf16).access (tileR off inb)).Stores Finset.univ}
    {hm : (Finset.univ : Finset (tileR off inb).shape.Idx) = Finset.univ ∨ ∀ a, (tileR off inb).stride a = 1}
    {k : PUnit → Prog (TpuEff nD τ sig (Elt F) Λ₀ .tc) α} :
    (pFn c g f : sProp 𝕄)
      ⊢ iprop(((∃ f', ⌜(∀ i ∈ sT j.val, f' i = FN xA xW c i) ∧ ∀ i, i ∉ sT j.val → f' i = f i⌝ ∗ pFn c g f') -∗ wp frame (wpE (defs₀ (F := F)) 𝒱₀ (c : Thread nD τ) none) Set.univ (k ⟨⟩) Q)
          -∗ wp frame (wpE (defs₀ (F := F)) 𝒱₀ (c : Thread nD τ) none) Set.univ (.op (.load (Memref.whole cc0_scratch2 : Memref sig .tc .vmem S1024x4096 .bf16) (tileR off inb).toLoadRect hl) fun _ =>
              .op (.store (Memref.whole cc0_scratch2 : Memref sig .tc .vmem S1024x4096 .bf16) (tileR off inb) w Finset.univ hx hm) k) Q) := by
  subst hg hw
  iintro Hf Hk
  iapply (wp_load 𝒱₀ (c : Thread nD τ) none Set.univ (m := (Memref.whole cc0_scratch2 : Memref sig .tc .vmem S1024x4096 .bf16))
    (((View.set_slice _ _).symm.trans (tileR_set2 ho inb)).subset.trans (sT_subset j.val))) $$ Hf; iintro Hf
  iapply (wp_store 𝒱₀ (c : Thread nD τ) none Set.univ (m := (Memref.whole cc0_scratch2 : Memref sig .tc .vmem S1024x4096 .bf16)) (r := tileR off inb) (Mk := Finset.univ)
    (by rw [View.setOn_univ]; exact (tileR_set2 ho inb).subset.trans (sT_subset j.val))) $$ Hf; iintro Hf
  iapply Hk
  iexists _
  isplitr [Hf]
  swap; · iexact Hf
  ipureintro
  exact ⟨fun i hi => (tile_store ho inb f _ i hi).trans (FN_tile xA xW c j i hi).symm, tile_store_off ho inb f _⟩

/-- Third sweep, even steps: both waits of a group. -/
theorem wp_arrive_grp {α : Type} {Q : α → sProp 𝕄} (κ : Dev nD × Option KI → ℕ) (g : Fin 8)
    {off : Fin 2 → ℕ} (inb : ∀ a, off a + S1024x512.size a ≤ S1024x4096.size a)
    (s₁ s₂ : DmaSem sig) (h₁ : s₁ = zsS g) (h₂ : s₂ = zrS g)
    {e₁ : (rGrp off inb).view.WordExact} {e₂ : (fGrp off inb).view.WordExact} {e₃ : (fGrp off inb).view.WordExact} {e₄ : (rGrp off inb).view.WordExact}
    {k : PUnit → Prog (TpuEff nD τ sig (Elt F) Λ₀ .tc) α} (W : Waits sig Unit) :
    iprop(recs xA xW κ ∗ zFly c g ∗ owes (c : Thread nD τ) 0 W)
      ⊢ iprop(((∃ W', owes (c : Thread nD τ) 0 W' ∗ zDone xA xW c g) -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 s₁ (rGrp off inb) (fGrp off inb) e₁ e₂) fun _ => .op (.waitDma2 s₂ (fGrp off inb) (rGrp off inb) e₃ e₄) k) Q) := by
  subst h₁ h₂
  unfold zFly zDone
  iintro ⟨#HI, ⟨Hc₁, Hp₁, Hp₂, Hc₂⟩, HO⟩ Hk
  iapply (wp_wait_dma xA xW c (κ (c, some (.inr (.inl g)))) (zsS g) NZ (fGrp_credit inb)
      (expect_zs xA xW c g).symm 0 W) $$ [Hc₁ HO Hp₁]
  · isplitr; · iapply (rec_at xA xW κ (c, some (.inr (.inl g)))); iexact HI
    isplitl [Hc₁]; · iexact Hc₁
    isplitl [HO]; · iexact HO
    isplitr; · rw [MayWait_zero]; iempintro
    iexact Hp₁
  iintro ⟨HO, Hz₁, Hs⟩
  iapply (wp_wait_dma xA xW c (κ (c, some (.inr (.inr g)))) (zrS g) NZ (rGrp_credit inb)
      (expect_zr xA xW c g).symm 0 _) $$ [Hc₂ HO Hp₂]
  · isplitr; · iapply (rec_at xA xW κ (c, some (.inr (.inr g)))); iexact HI
    isplitl [Hc₂]; · iexact Hc₂
    isplitl [HO]; · iexact HO
    isplitr; · rw [MayWait_zero]; iempintro
    iexact Hp₂
  iintro ⟨HO, Hz₂, Hr⟩
  ihave Hs := (Entails.of_eq (rest_zs xA xW c g)) $$ Hs
  ihave Hr := (Entails.of_eq (rest_zr xA xW c g)) $$ Hr
  iapply Hk
  iexists (insert (SemLoc.dma (zrS g), ()) (insert (SemLoc.dma (zsS g), ()) W))
  isplitl [HO]; · iexact HO
  isplitl [Hs]; · iexists _; iexact Hs
  isplitl [Hr]; · iexact Hr
  isplitl [Hz₁]; · iexact Hz₁
  iexact Hz₂

end Cert.MeshProof
end
-- ==== Proof.Body.lean ====
/-
  One step of the kernel at a symbolic device, by sweep: from the invariant, the dues and the staged blocks at step t
  to those at step t + 1, with what the step leaves in the output's staging buffer.
-/
module

public import proofs.«01_k».proof.Proof.Steps
public import Idealize.ShloMosaic.Lib.Pipeline.Value

@[expose] public section

noncomputable section

namespace Cert.MeshProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx (ix2 ix3 eq_ix2 eq_ix3)

variable {F : FTy → Type} [FloatOps F]

local notation "𝕄" => MT nD τ sig Unit (Elt F) ℕ UU ℕ

variable (xA : Dev nD → Fin 48 → Vec F S1x1024x4096 .bf16) (xW : Dev nD → Fin 48 → Vec F S4096x256 .bf16) (c : Dev nD)

/-- What step t leaves in the output's staging buffer: a tile of the unrounded sum in the second sweep, the partner's tile in the third. -/
def OutOk (t : ℕ) (X : Vec F S1x1024x256 .f32) : Prop :=
  (∀ j : Fin 16, t = 16 + j.val → X = k0_pay5 (xA c (pt1 j)) (xW c (pt1 j)) (rowOf (RX xA xW c) j))
    ∧ ∀ j : Fin 16, t = 32 + j.val → X = k0_pay3 (tileOf (RZ xA xW c) j)

theorem wp_done (P : sProp 𝕄) : P ⊢ wp frame (wpE (defs₀ (F := F)) 𝒱₀ (c : Thread nD τ) none) Set.univ (.ret PUnit.unit) fun _ => P := by
  rw [wp_ret]; iintro H; imodintro; iexact H

theorem row_load_sub {off : Fin 3 → ℕ} {j : ℕ} (ho : off = ![j, 0, 0]) (inb : ∀ a, off a + S1x1024x256.size a ≤ S16x1024x256.size a) :
    (Memref.whole cc0_scratch1 : Memref sig .tc .vmem S16x1024x256 .bf16).view.setOn (rowR off inb).toLoadRect.set ⊆ sX j :=
  ((View.set_slice _ _).symm.trans (rowR_setOn1 ho inb)).subset
theorem tile_load_sub {off : Fin 2 → ℕ} {j : ℕ} (ho : off = ![0, 256 * j]) (inb : ∀ a, off a + S1024x256.size a ≤ S1024x4096.size a) :
    (Memref.whole cc0_scratch3 : Memref sig .tc .vmem S1024x4096 .bf16).view.setOn (tileR off inb).toLoadRect.set ⊆ sZ (j / 2) :=
  ((View.set_slice _ _).symm.trans (tileR_set3 ho inb)).subset.trans (sT_subset j)

section Step

variable (t : Fin 48) (m2 : Memref sig .tc .vmem S1x1024x4096 .bf16) (h2 : m2.IsWhole) (m3 : Memref sig .tc .vmem S4096x256 .bf16) (h3 : m3.IsWhole)
  (m4 : Memref sig .tc .vmem S1x1024x256 .f32) (h4 : m4.IsWhole)

abbrev stepProg : Prog (TpuEff nD τ sig (Elt F) Λ₀ .tc) PUnit :=
  cc0_body (grid0.coords t) m2 h2 m3 h3 m4 h4 (Memref.whole cc0_scratch0) (Memref.isWhole_whole _) (Memref.whole cc0_scratch1) (Memref.isWhole_whole _)
    (Memref.whole cc0_scratch2) (Memref.isWhole_whole _) (Memref.whole cc0_scratch3) (Memref.isWhole_whole _) cc0_scratch4 cc0_scratch5 cc0_scratch6 cc0_scratch7

def stepPre (W : Waits sig Unit) : sProp 𝕄 :=
  iprop(Phi xA xW c t.val ∗ owes (c : Thread nD τ) (owed c t.val) W ∗ owns (c : Thread nD τ) m2 fullShare (xA c t) ∗ owns (c : Thread nD τ) m3 fullShare (xW c t)
    ∗ ∃ Y, owns (c : Thread nD τ) m4 fullShare Y)
def stepPost : sProp 𝕄 :=
  iprop(Phi xA xW c (t.val + 1) ∗ (∃ W, owes (c : Thread nD τ) (owed c (t.val + 1)) W) ∗ owns (c : Thread nD τ) m2 fullShare (xA c t) ∗ owns (c : Thread nD τ) m3 fullShare (xW c t)
    ∗ ∃ X, ⌜OutOk xA xW c t.val X⌝ ∗ owns (c : Thread nD τ) m4 fullShare X)

/-- The row a step names. -/
abbrev colOf : Fin 16 := (grid0.coords t) 1
theorem colOf_val : (colOf t).val = t.val % 16 := coord1 t

variable (W : Waits sig Unit)

/-- The first sweep. -/
theorem step_first (h : t.val < 16) :
    stepPre xA xW c t m2 m3 m4 W ⊢ wp frame (wpE (defs₀ (F := F)) 𝒱₀ (c : Thread nD τ) none) Set.univ (stepProg t m2 h2 m3 h3 m4 h4) fun _ => stepPost xA xW c t m2 m3 m4 := by
  have hj : t.val = (colOf t).val := by rw [colOf_val]; omega
  have hp : t = pt0 (colOf t) := Fin.ext hj
  have c2 : k0_cond2 (grid0.coords t) = 1#1 := (cond2_iff t).mpr h
  have c3 : ¬ k0_cond3 (grid0.coords t) = 1#1 := fun e => by have := (cond3_iff t).mp e; omega
  have c5 : ¬ k0_cond5 (grid0.coords t) = 1#1 := fun e => by have := (cond5_iff t).mp e; omega
  have ho : OutOk xA xW c t.val = fun _ => True := by
    funext X; exact propext ⟨fun _ => trivial, fun _ => ⟨fun j e => by omega, fun j e => by omega⟩⟩
  unfold stepPre stepPost stepProg
  rw [ho, Phi_pos xA xW c (t.val + 1) (by omega), show owed c (t.val + 1) = owX c (t.val + 1) + owZ c (t.val + 1) from if_neg (by omega)]
  simp only [cc0_body_eq_skeleton]; unfold cc0_body_skel
  by_cases h0 : t.val = 0
  · have c1 : k0_cond1 (grid0.coords t) = 1#1 := (cond1_iff t).mpr h0
    rw [show Phi xA xW c t.val = Start xA xW c by rw [h0]; exact Phi_zero xA xW c, show owed c t.val = O₀ c from if_pos h0]
    simp only [dif_pos c1, dif_pos c2, dif_neg c3, dif_neg c5, semSignalWord, semWaitWord, Prog.lift, Prog.bind_op, Prog.bind_ret, Prog.pure_eq_ret, wp_deviceId]
    iintro ⟨HP, HO, Ha, Hw, ⟨%Y, Hy⟩⟩
    iapply (wp_meet xA xW c _ _ (Fin.ext (dev1_xp c)) (Fin.ext (dev2_zp c)) W) $$ [HP HO]
    · isplitl [HP]; · iexact HP
      iexact HO
    iintro ⟨%W₁, HS, HO⟩
    iapply (wp_load_owns c m2 (xA c t)) $$ Ha; iintro Ha
    iapply (wp_load_owns c m3 (xW c t)) $$ Hw; iintro Hw
    iapply (wp_row xA xW c t.val (colOf t) hj (xA c t) (xW c t) (congrArg (xA c) hp) (congrArg (xW c) hp) _ (Fin.ext (dev3_xp c))
      (k0_off1_eq _) (k0_off3_eq _) _ _ _ _ (sem_xs2 _ _) (sem_xr2 _ _) W₁) $$ [HS HO]
    · rw [h0]
      isplitl [HS]; · iexact HS
      iexact HO
    iintro ⟨%W₂, HS, HO⟩
    iapply (wp_done c _)
    isplitl [HS]; · iexact HS
    isplitl [HO]; · iexists W₂; iexact HO
    isplitl [Ha]; · iexact Ha
    isplitl [Hw]; · iexact Hw
    iexists Y
    isplitr; · ipureintro; trivial
    iexact Hy
  · have c1 : ¬ k0_cond1 (grid0.coords t) = 1#1 := fun e => h0 ((cond1_iff t).mp e)
    rw [Phi_pos xA xW c t.val h0, show owed c t.val = owX c t.val + owZ c t.val from if_neg h0]
    simp only [dif_neg c1, dif_pos c2, dif_neg c3, dif_neg c5, Prog.lift, Prog.bind_op, Prog.bind_ret, Prog.pure_eq_ret, wp_deviceId]
    iintro ⟨HS, HO, Ha, Hw, ⟨%Y, Hy⟩⟩
    iapply (wp_load_owns c m2 (xA c t)) $$ Ha; iintro Ha
    iapply (wp_load_owns c m3 (xW c t)) $$ Hw; iintro Hw
    iapply (wp_row xA xW c t.val (colOf t) hj (xA c t) (xW c t) (congrArg (xA c) hp) (congrArg (xW c) hp) _ (Fin.ext (dev3_xp c))
      (k0_off1_eq _) (k0_off3_eq _) _ _ _ _ (sem_xs2 _ _) (sem_xr2 _ _) W) $$ [HS HO]
    · isplitl [HS]; · iexact HS
      iexact HO
    iintro ⟨%W₂, HS, HO⟩
    iapply (wp_done c _)
    isplitl [HS]; · iexact HS
    isplitl [HO]; · iexists W₂; iexact HO
    isplitl [Ha]; · iexact Ha
    isplitl [Hw]; · iexact Hw
    iexists Y
    isplitr; · ipureintro; trivial
    iexact Hy

/-- The second sweep. -/
theorem step_second (h : 16 ≤ t.val) (h' : t.val < 32) :
    stepPre xA xW c t m2 m3 m4 W ⊢ wp frame (wpE (defs₀ (F := F)) 𝒱₀ (c : Thread nD τ) none) Set.univ (stepProg t m2 h2 m3 h3 m4 h4) fun _ => stepPost xA xW c t m2 m3 m4 := by
  have hj : t.val = 16 + (colOf t).val := by rw [colOf_val]; omega
  have hp : t = pt1 (colOf t) := Fin.ext hj
  have hj16 : (colOf t).val < 16 := (colOf t).isLt
  obtain ⟨g, hg⟩ : ∃ g : Fin 8, g.val = (colOf t).val / 2 := ⟨⟨(colOf t).val / 2, by omega⟩, rfl⟩
  have c1 : ¬ k0_cond1 (grid0.coords t) = 1#1 := fun e => by have := (cond1_iff t).mp e; omega
  have c2 : ¬ k0_cond2 (grid0.coords t) = 1#1 := fun e => by have := (cond2_iff t).mp e; omega
  have c3 : k0_cond3 (grid0.coords t) = 1#1 := (cond3_iff t).mpr ⟨h, h'⟩
  have c5 : ¬ k0_cond5 (grid0.coords t) = 1#1 := fun e => by have := (cond5_iff t).mp e; omega
  have ho : OutOk xA xW c t.val (k0_pay5 (xA c t) (xW c t) (rowOf (RX xA xW c) (colOf t))) :=
    ⟨fun j e => by
      obtain rfl : j = colOf t := Fin.ext (by omega)
      rw [← hp], fun j e => by omega⟩
  have hfn : k0_pay2 (k0_pay6 (xA c t) (xW c t) (rowOf (RX xA xW c) (colOf t))) = fnTile xA xW c (colOf t) := by
    rw [show k0_pay2 (k0_pay6 (xA c t) (xW c t) (rowOf (RX xA xW c) (colOf t))) = k0_pay6 (xA c t) (xW c t) (rowOf (RX xA xW c) (colOf t)) from Idealize.ShloMosaic.shapeCast_self _ _]
    unfold fnTile; rw [← hp]
  have hO : Above 2 (owX c t.val + owZ c t.val) := by rw [owX_done c _ h]; exact (Above.zero 2).add (above_owZ c _)
  unfold stepPre stepPost stepProg
  rw [Phi_pos xA xW c (t.val + 1) (by omega), show owed c (t.val + 1) = owX c (t.val + 1) + owZ c (t.val + 1) from if_neg (by omega),
    Phi_pos xA xW c t.val (by omega), show owed c t.val = owX c t.val + owZ c t.val from if_neg (by omega)]
  simp only [cc0_body_eq_skeleton]; unfold cc0_body_skel
  simp only [k0_part1_eq_skeleton]; unfold k0_part1_skel
  simp only [dif_neg c1, dif_neg c2, dif_pos c3, dif_neg c5, Prog.lift, Prog.bind_op, Prog.bind_ret, Prog.pure_eq_ret, wp_deviceId]
  unfold St
  iintro ⟨⟨⟨%κ, #HI⟩, #Hlev, Hz, Hxs, Hzs⟩, HO, Ha, Hw, ⟨%Y, Hy⟩⟩
  iapply (wp_load_owns c m2 (xA c t)) $$ Ha; iintro Ha
  iapply (wp_load_owns c m3 (xW c t)) $$ Hw; iintro Hw
  ihave Hx := (xslots_turn (F := F) c t.val (colOf t) h' (colOf_val t)) $$ Hxs
  rw [xslot_fly (F := F) c (t := t.val) (j := colOf t) (by omega) (by omega), xslot_done (F := F) c (t := t.val + 1) (j := colOf t) (by omega)]
  icases Hx with ⟨Hx, Hxb⟩
  iapply (wp_arrive xA xW c κ (colOf t) _ _ _ (sem_xs4 _ _) (sem_xr4 _ _) _ hO W) $$ [Hx HO]
  · isplitr; · iexact HI
    isplitr; · iexact Hlev
    isplitl [Hx]; · iexact Hx
    iexact HO
  iintro ⟨%W₁, HO, Hs, Hr, Hs0, Hr0⟩
  iapply (wp_load 𝒱₀ (c : Thread nD τ) none Set.univ (m := (Memref.whole cc0_scratch1 : Memref sig .tc .vmem S16x1024x256 .bf16))
    (row_load_sub (k0_off6_eq _) _)) $$ Hr; iintro Hr
  rw [rRow_load (k0_off6_eq _) _ (RX xA xW c) (colOf t).isLt]
  iapply (wp_load_owns c m4 Y) $$ Hy; iintro Hy
  iapply (wp_store_owns c m4 Y _) $$ Hy; iintro Hy
  ihave Hzt := (zslots_turn xA xW c t.val g h (by rw [hg, colOf_val])) $$ Hzs
  by_cases hodd : t.val % 2 = 1
  · have c4 : k0_cond4 (grid0.coords t) = 1#1 := (cond4_iff t).mpr hodd
    simp only [dif_pos c4, Prog.lift, Prog.bind_op, Prog.bind_ret, Prog.pure_eq_ret]
    rw [zslot_before xA xW c (t := t.val) (g := g) (by omega), zslot_fly xA xW c (t := t.val + 1) (g := g) (by omega) (by omega)]
    unfold zOwn zGive zFly
    icases Hzt with ⟨⟨⟨⟨%f, %hf, Hf⟩, Ht₁, Ht₂, Hp₁, Hp₂, #Hr₁, Hc⟩, ⟨%fd, Hd⟩, #Hr₂⟩, Hzb⟩
    iapply (wp_tile xA xW c (colOf t) g.val hg f _ hfn (k0_off7_eq _) _) $$ Hf
    iintro ⟨%f', %hf', Hf⟩
    iapply (wp_send_grp xA xW c κ g _ (Fin.ext (dev4_zp c)) ((off9_eq _).trans (by rw [hg])) _ _ _
      ((sem_zs8 _ _).trans (congrArg zsS (Fin.ext hg.symm))) ((sem_zr8 _ _).trans (congrArg zrS (Fin.ext hg.symm))) f' fd
      (fun i hi => by
        by_cases hi' : i ∈ sT (colOf t).val
        · exact hf'.1 i hi'
        · rw [hf'.2 i hi']
          refine hf (by omega) i (mem_sT.mpr ?_)
          have h1 := mem_sZ.mp hi
          have h2 : ¬ (i 1).val / 256 = (colOf t).val := fun e => hi' (mem_sT.mpr e)
          omega)
      (owX c t.val + owZ c t.val) (owX c (t.val + 1) + owZ c (t.val + 1))
      (by
        have e : t.val = 16 + 2 * g.val + 1 := by omega
        rw [owX_done c _ h, owX_done c (t.val + 1) (by omega), zero_add, zero_add, e]
        exact owZ_step c g) W₁) $$ [Hf Hd HO Ht₁ Ht₂]
    · isplitr; · iexact HI
      isplitl [Hf]; · iexact Hf
      isplitl [Hd]; · iexact Hd
      isplitl [HO]; · iexact HO
      isplitl [Ht₁]; · iexact Ht₁
      isplitr; · iexact Hr₁
      isplitl [Ht₂]; · iexact Ht₂
      iexact Hr₂
    iintro ⟨Hcs, HO⟩
    iapply (wp_done c _)
    isplitl [Hz Hxb Hs Hr Hs0 Hr0 Hzb Hcs Hp₁ Hp₂ Hc]
    · isplitr; · iexists κ; iexact HI
      isplitr; · iexact Hlev
      isplitl [Hz]; · iexact Hz
      isplitl [Hxb Hs Hr Hs0 Hr0]
      · iapply Hxb; unfold xDone
        isplitl [Hs]; · iexists _; iexact Hs
        isplitl [Hr]; · iexists _; iexact Hr
        isplitl [Hs0]; · iexact Hs0
        iexact Hr0
      · iapply Hzb
        isplitl [Hcs]; · iexact Hcs
        isplitl [Hp₁]; · iexact Hp₁
        isplitl [Hp₂]; · iexact Hp₂
        iexact Hc
    isplitl [HO]; · iexists W₁; iexact HO
    isplitl [Ha]; · iexact Ha
    isplitl [Hw]; · iexact Hw
    iexists _
    isplitr; · ipureintro; exact ho
    iexact Hy
  · have c4 : ¬ k0_cond4 (grid0.coords t) = 1#1 := fun e => hodd ((cond4_iff t).mp e)
    simp only [dif_neg c4, Prog.lift, Prog.bind_op, Prog.bind_ret, Prog.pure_eq_ret]
    rw [zslot_before xA xW c (t := t.val) (g := g) (by omega), zslot_before xA xW c (t := t.val + 1) (g := g) (by omega)]
    unfold zOwn
    icases Hzt with ⟨⟨⟨⟨%f, -, Hf⟩, Hrest⟩, Hg⟩, Hzb⟩
    iapply (wp_tile xA xW c (colOf t) g.val hg f _ hfn (k0_off7_eq _) _) $$ Hf
    iintro ⟨%f', %hf', Hf⟩
    iapply (wp_done c _)
    isplitl [Hz Hxb Hs Hr Hs0 Hr0 Hzb Hf Hrest Hg]
    · isplitr; · iexists κ; iexact HI
      isplitr; · iexact Hlev
      isplitl [Hz]; · iexact Hz
      isplitl [Hxb Hs Hr Hs0 Hr0]
      · iapply Hxb; unfold xDone
        isplitl [Hs]; · iexists _; iexact Hs
        isplitl [Hr]; · iexists _; iexact Hr
        isplitl [Hs0]; · iexact Hs0
        iexact Hr0
      · iapply Hzb
        isplitr [Hg]
        · isplitl [Hf]
          · iexists f'
            isplitr
            · ipureintro; intro _ i hi
              have e : 2 * g.val = (colOf t).val := by omega
              exact hf'.1 i (e ▸ hi)
            iexact Hf
          iexact Hrest
        iexact Hg
    isplitl [HO]
    · rw [owX_done c _ h, owX_done c (t.val + 1) (by omega), owZ_same c (t.val + 1) t.val (fun i => by omega)]
      iexists W₁; iexact HO
    isplitl [Ha]; · iexact Ha
    isplitl [Hw]; · iexact Hw
    iexists _
    isplitr; · ipureintro; exact ho
    iexact Hy

/-- The third sweep. -/
theorem step_third (h : 32 ≤ t.val) :
    stepPre xA xW c t m2 m3 m4 W ⊢ wp frame (wpE (defs₀ (F := F)) 𝒱₀ (c : Thread nD τ) none) Set.univ (stepProg t m2 h2 m3 h3 m4 h4) fun _ => stepPost xA xW c t m2 m3 m4 := by
  have ht48 : t.val < 48 := t.isLt
  have hj : t.val = 32 + (colOf t).val := by rw [colOf_val]; omega
  have hj16 : (colOf t).val < 16 := (colOf t).isLt
  obtain ⟨g, hg⟩ : ∃ g : Fin 8, g.val = (colOf t).val / 2 := ⟨⟨(colOf t).val / 2, by omega⟩, rfl⟩
  have c1 : ¬ k0_cond1 (grid0.coords t) = 1#1 := fun e => by have := (cond1_iff t).mp e; omega
  have c2 : ¬ k0_cond2 (grid0.coords t) = 1#1 := fun e => by have := (cond2_iff t).mp e; omega
  have c3 : ¬ k0_cond3 (grid0.coords t) = 1#1 := fun e => by have := (cond3_iff t).mp e; omega
  have c5 : k0_cond5 (grid0.coords t) = 1#1 := (cond5_iff t).mpr h
  have ho : OutOk xA xW c t.val (k0_pay3 (tileOf (RZ xA xW c) (colOf t))) :=
    ⟨fun j e => by omega, fun j e => by
      obtain rfl : j = colOf t := Fin.ext (by omega)
      rfl⟩
  unfold stepPre stepPost stepProg
  rw [Phi_pos xA xW c (t.val + 1) (by omega),
    show owed c (t.val + 1) = 0 by rw [show owed c (t.val + 1) = owX c (t.val + 1) + owZ c (t.val + 1) from if_neg (by omega), owX_done c _ (by omega), owZ_done c _ (by omega), zero_add],
    Phi_pos xA xW c t.val (by omega),
    show owed c t.val = 0 by rw [show owed c t.val = owX c t.val + owZ c t.val from if_neg (by omega), owX_done c _ (by omega), owZ_done c _ h, zero_add]]
  simp only [cc0_body_eq_skeleton]; unfold cc0_body_skel
  simp only [dif_neg c1, dif_neg c2, dif_neg c3, dif_pos c5, Prog.lift, Prog.bind_op, Prog.bind_ret, Prog.pure_eq_ret, wp_deviceId]
  unfold St
  rw [xslots_keep (F := F) c t.val h]
  iintro ⟨⟨⟨%κ, #HI⟩, #Hlev, Hz, Hxs, Hzs⟩, HO, Ha, Hw, ⟨%Y, Hy⟩⟩
  by_cases hev : t.val % 2 = 0
  · have c6 : k0_cond6 (grid0.coords t) = 1#1 := (cond6_iff t).mpr hev
    simp only [dif_pos c6, Prog.lift, Prog.bind_op, Prog.bind_ret, Prog.pure_eq_ret]
    ihave Hzt := (zslots_turn xA xW c t.val g (by omega) (by rw [hg, colOf_val])) $$ Hzs
    rw [zslot_fly xA xW c (t := t.val) (g := g) (by omega) (by omega), zslot_done xA xW c (t := t.val + 1) (g := g) (by omega)]
    icases Hzt with ⟨Hf, Hzb⟩
    iapply (wp_arrive_grp xA xW c κ g _ _ _ ((sem_zs10 _ _).trans (congrArg zsS (Fin.ext hg.symm))) ((sem_zr10 _ _).trans (congrArg zrS (Fin.ext hg.symm))) W) $$ [Hf HO]
    · isplitr; · iexact HI
      isplitl [Hf]; · iexact Hf
      iexact HO
    iintro ⟨%W₁, HO, Hd⟩
    unfold zDone
    icases Hd with ⟨Hf, Hr, Hs0, Hr0⟩
    iapply (wp_load 𝒱₀ (c : Thread nD τ) none Set.univ (m := (Memref.whole cc0_scratch3 : Memref sig .tc .vmem S1024x4096 .bf16))
      ((tile_load_sub (k0_off12_eq _) _).trans (by rw [hg]))) $$ Hr; iintro Hr
    rw [tile_load (k0_off12_eq _) _ (RZ xA xW c) (colOf t).isLt]
    iapply (wp_load_owns c m4 Y) $$ Hy; iintro Hy
    iapply (wp_store_owns c m4 Y _) $$ Hy; iintro Hy
    iapply (wp_done c _)
    isplitl [Hz Hxs Hzb Hf Hr Hs0 Hr0]
    · isplitr; · iexists κ; iexact HI
      isplitr; · iexact Hlev
      isplitl [Hz]; · iexact Hz
      isplitl [Hxs]; · iexact Hxs
      iapply Hzb
      isplitl [Hf]; · iexact Hf
      isplitl [Hr]; · iexact Hr
      isplitl [Hs0]; · iexact Hs0
      iexact Hr0
    isplitl [HO]; · iexists W₁; iexact HO
    isplitl [Ha]; · iexact Ha
    isplitl [Hw]; · iexact Hw
    iexists _
    isplitr; · ipureintro; exact ho
    iexact Hy
  · have c6 : ¬ k0_cond6 (grid0.coords t) = 1#1 := fun e => hev ((cond6_iff t).mp e)
    simp only [dif_neg c6, Prog.lift, Prog.bind_op, Prog.bind_ret, Prog.pure_eq_ret]
    ihave Hzt := (zslots_turn xA xW c t.val g (by omega) (by rw [hg, colOf_val])) $$ Hzs
    rw [zslot_done xA xW c (t := t.val) (g := g) (by omega), zslot_done xA xW c (t := t.val + 1) (g := g) (by omega)]
    icases Hzt with ⟨Hd, Hzb⟩
    unfold zDone
    icases Hd with ⟨Hf, Hr, Hs0, Hr0⟩
    iapply (wp_load 𝒱₀ (c : Thread nD τ) none Set.univ (m := (Memref.whole cc0_scratch3 : Memref sig .tc .vmem S1024x4096 .bf16))
      ((tile_load_sub (k0_off12_eq _) _).trans (by rw [hg]))) $$ Hr; iintro Hr
    rw [tile_load (k0_off12_eq _) _ (RZ xA xW c) (colOf t).isLt]
    iapply (wp_load_owns c m4 Y) $$ Hy; iintro Hy
    iapply (wp_store_owns c m4 Y _) $$ Hy; iintro Hy
    iapply (wp_done c _)
    isplitl [Hz Hxs Hzb Hf Hr Hs0 Hr0]
    · isplitr; · iexists κ; iexact HI
      isplitr; · iexact Hlev
      isplitl [Hz]; · iexact Hz
      isplitl [Hxs]; · iexact Hxs
      iapply Hzb
      isplitl [Hf]; · iexact Hf
      isplitl [Hr]; · iexact Hr
      isplitl [Hs0]; · iexact Hs0
      iexact Hr0
    isplitl [HO]; · iexists W; iexact HO
    isplitl [Ha]; · iexact Ha
    isplitl [Hw]; · iexact Hw
    iexists _
    isplitr; · ipureintro; exact ho
    iexact Hy

/-- A step of any sweep. -/
theorem step_any :
    stepPre xA xW c t m2 m3 m4 W ⊢ wp frame (wpE (defs₀ (F := F)) 𝒱₀ (c : Thread nD τ) none) Set.univ (stepProg t m2 h2 m3 h3 m4 h4) fun _ => stepPost xA xW c t m2 m3 m4 := by
  by_cases h : t.val < 16
  · exact step_first xA xW c t m2 h2 m3 h3 m4 h4 W h
  by_cases h' : t.val < 32
  · exact step_second xA xW c t m2 h2 m3 h3 m4 h4 W (by omega) h'
  exact step_third xA xW c t m2 h2 m3 h3 m4 h4 W (by omega)

end Step

end Cert.MeshProof
end
-- ==== Proof.Region.lean ====
/-
The kernel's region: its proof data, and the obligation of its body at every point of the grid. The two input windows hold the blocks of
the arrays that the host code made; of the output window only what the third and the second sweep leave there is stated.
-/
module

public import proofs.«01_k».proof.Proof.Body
public import proofs.«01_k».proof.Proof.Gen.KernelIdeal.Regions
public import proofs.«01_k».proof.Proof.Gen.KernelIdeal.Points
public import Idealize.ShloMosaic.Lib.Pipeline.DatRel
public import Idealize.ShloMosaic.Lib.Pipeline.FrameBody
public import Idealize.ShloMosaic.Lib.Pipeline.RegionArrays

@[expose] public section

noncomputable section

namespace Cert.MeshProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx (ix2 ix3 eq_ix2 eq_ix3)

variable {F : FTy → Type} [FloatOps F]

local notation "𝕄" => MT nD τ sig Unit (Elt F) ℕ UU ℕ

variable (V : Dev nD → Valuation τ sig (Elt F))

/-! ## The proof data -/

/-- The block of the activations at a point, -/
def bA (c : Dev nD) (t : Fin 48) : Vec F S1x1024x4096 .bf16 := ((cfg0.win 0).blk t).view.read (Elt F) (V c (Proc.devRef .tc main_v24))
/-- and that of the weights. -/
def bW (c : Dev nD) (t : Fin 48) : Vec F S4096x256 .bf16 := ((cfg0.win 1).blk t).view.read (Elt F) (V c (Proc.devRef .tc main_v29))

/-- The proof data of the region on a device. -/
def dat (c : Dev nD) : Pipeline.Dat τ (Elt F) Unit ℕ UU ℕ cfg0 c where
  A w := match w with | 0 => V c (Proc.devRef .tc main_v24) | 1 => V c (Proc.devRef .tc main_v29) | 2 => V c (Proc.devRef .tc main_v30)
  after w t := match w with | 0 => bA V c t | 1 => bW V c t | 2 => fun _ => Classical.arbitrary _
  Φ t := Phi (bA V) (bW V) c t.val
  q _ := fullShare
  owed t := owed c t.val

/-- The output window is the one of which only a predicate is known, -/
def fgt : Fin cfg0.W → Bool := fun w => match w with | 0 => false | 1 => false | 2 => true
/-- the predicate of the sweeps. -/
def Rl (c : Dev nD) : (w : Fin cfg0.W) → Fin cfg0.N → ((cfg0.win w).block.Idx → Elt F (cfg0.win w).elt) → Prop :=
  fun w t X => match w with | 0 => True | 1 => True | 2 => OutOk (bA V) (bW V) c t.val X

theorem before_0 (c : Dev nD) (t : Fin 48) (d) : (dat V c).before 0 t d = bA V c t :=
  ((dat V c).before_in_eq_fetched 0 rfl (fun _ => rfl) (fun _ _ _ => rfl) (fun _ => rfl) t d).trans rfl
theorem before_1 (c : Dev nD) (t : Fin 48) (d) : (dat V c).before 1 t d = bW V c t :=
  ((dat V c).before_in_eq_fetched 1 rfl (fun _ => rfl) (fun _ _ _ => rfl) (fun _ => rfl) t d).trans rfl

theorem owesAt_out (c : Dev nD) (t : Fin 49) : ((dat V c).owesAt () t : sProp 𝕄) ⊢ iprop(∃ W, owes (c : Thread nD τ) (owed c t.val) W) := by
  unfold Pipeline.Dat.owesAt Pipeline.owesWithin
  iintro ⟨%W, -, HO⟩; iexists W; iexact HO
theorem owesAt_in (c : Dev nD) (t : Fin 49) (W : Waits sig Unit) : (owes (c : Thread nD τ) (owed c t.val) W : sProp 𝕄) ⊢ (dat V c).owesAt () t := by
  unfold Pipeline.Dat.owesAt Pipeline.owesWithin Pipeline.Dat.bound
  iintro HO; iexists W; isplitr; · ipureintro; exact fun _ _ => Or.inl trivial
  iexact HO

/-- The step of the protocol between the region's own forms of what is owed and staged. -/
theorem step_region (c : Dev nD) (t : Fin 48) (m2 h2 m3 h3 m4 h4) :
    iprop(Phi (bA V) (bW V) c t.val ∗ (∃ W, owes (c : Thread nD τ) (owed c t.val) W)
        ∗ owns (c : Thread nD τ) m2 fullShare (bA V c t) ∗ owns (c : Thread nD τ) m3 fullShare (bW V c t) ∗ ∃ Y, owns (c : Thread nD τ) m4 fullShare Y)
      ⊢ wp frame (wpE (defs₀ (F := F)) 𝒱₀ (c : Thread nD τ) none) Set.univ (stepProg t m2 h2 m3 h3 m4 h4) fun _ => stepPost (bA V) (bW V) c t m2 m3 m4 := by
  iintro ⟨HP, ⟨%W, HO⟩, H⟩
  iapply (step_any (bA V) (bW V) c t m2 h2 m3 h3 m4 h4 W)
  unfold stepPre
  isplitl [HP]; · iexact HP
  isplitl [HO]; · iexact HO
  iexact H

/-- The body's obligation at every point: the step of the protocol. -/
theorem body_rel (c : Dev nD) : Pipeline.BodyObligationRel (dat V c) (defs₀ (F := F)) 𝒱₀ () Set.univ fgt (Rl V c) := fun t => by
  rw [bigSep_W0, bigSep_W0]
  have hpre : iprop(Phi (bA V) (bW V) c t.val ∗ (dat V c).owesAt () t.castSucc
      ∗ (∃ d, owns (c : Thread nD τ) (st0_0 t) fullShare ((dat V c).before 0 t d)) ∗ (∃ d, owns (c : Thread nD τ) (st0_1 t) fullShare ((dat V c).before 1 t d))
      ∗ ∃ Y, ⌜((dat V c).toRRel fgt (Rl V c)).Finds 2 t Y⌝ ∗ owns (c : Thread nD τ) (st0_2 t) fullShare Y)
    ⊢ iprop(Phi (bA V) (bW V) c t.val ∗ (∃ W, owes (c : Thread nD τ) (owed c t.val) W)
        ∗ owns (c : Thread nD τ) (st0_0 t) fullShare (bA V c t) ∗ owns (c : Thread nD τ) (st0_1 t) fullShare (bW V c t) ∗ ∃ Y, owns (c : Thread nD τ) (st0_2 t) fullShare Y) :=
    sep_mono .rfl (sep_mono (owesAt_out V c _) (sep_mono
      (by iintro ⟨%d, H⟩; ihave H := (Entails.of_eq (congrArg (owns (c : Thread nD τ) (st0_0 t) fullShare) (before_0 V c t d))) $$ H; iexact H)
      (sep_mono
        (by iintro ⟨%d, H⟩; ihave H := (Entails.of_eq (congrArg (owns (c : Thread nD τ) (st0_1 t) fullShare) (before_1 V c t d))) $$ H; iexact H)
        (by iintro ⟨%Y, -, H⟩; iexists Y; iexact H))))
  have hpost : stepPost (bA V) (bW V) c t (st0_0 t) (st0_1 t) (st0_2 t)
      ⊢ iprop(Phi (bA V) (bW V) c (t.val + 1) ∗ (dat V c).owesAt () t.succ
          ∗ owns (c : Thread nD τ) (st0_0 t) fullShare (bA V c t) ∗ owns (c : Thread nD τ) (st0_1 t) fullShare (bW V c t)
          ∗ ∃ X, ⌜OutOk (bA V) (bW V) c t.val X⌝ ∗ owns (c : Thread nD τ) (st0_2 t) fullShare X) :=
    sep_mono .rfl (sep_mono (by iintro ⟨%W, HO⟩; iapply (owesAt_in V c t.succ W); iexact HO) .rfl)
  exact hpre.trans ((step_region V c t (st0_0 t) (hstage0_0 ((cfg0.slots t 0).cast nbuf0_0)) (st0_1 t) (hstage0_1 ((cfg0.slots t 1).cast nbuf0_1))
    (st0_2 t) (hstage0_2 ((cfg0.slots t 2).cast nbuf0_2))).trans (wp_mono _ _ _ fun _ => hpost))

/-! ## Entering and leaving the region -/

/-- What a device has for the meeting, -/
def barTok (c : Dev nD) : sProp 𝕄 :=
  iprop(dutyTok ER (barCell (xp c)) 0 true ∗ dutyTok ER (barCell (zp c)) 0 false ∗ reached ER (barCell (xp c)) 0 ∗ reached ER (barCell (zp c)) 0
    ∗ atPos ER (barCell c) 0 ∅ 0 ∗ cred (tallyAt (barCell c) () 2))
/-- for the copy of a row, -/
def xTok (c : Dev nD) (j : Fin 16) : sProp 𝕄 :=
  iprop(dutyTok ER (xsCell c j) 0 true ∗ dutyTok ER (xrCell (xp c) j) 0 true ∗ cred (tallyAt (xrCell c j) () NX))
/-- and for the copy of a group. -/
def zTok (c : Dev nD) (g : Fin 8) : sProp 𝕄 :=
  iprop(dutyTok ER (zsCell c g) 0 true ∗ dutyTok ER (zrCell (zp c) g) 0 true ∗ cred (tallyAt (zrCell c g) () NZ))

/-- What the launch deals to a device: its cells of the region are not open yet. -/
def Dealt (c : Dev nD) : sProp 𝕄 :=
  iprop((∃ κ, recs (bA V) (bW V) κ) ∗ barTok c ∗ (bigSep Finset.univ fun k : KI => openTok ER (kcell (c, some k)))
    ∗ (bigSep Finset.univ fun j => xTok c j) ∗ bigSep Finset.univ fun g => zTok c g)
/-- The same with the cells open. -/
def Opened (c : Dev nD) : sProp 𝕄 :=
  iprop((∃ κ, recs (bA V) (bW V) κ) ∗ levAts L lv ∗ barTok c
    ∗ (bigSep Finset.univ fun k : KI => iprop(atPos ER (kcell (c, some k)) 0 ∅ 0 ∗ reached ER (kcell (c, some k)) 0))
    ∗ (bigSep Finset.univ fun j => xTok c j) ∗ bigSep Finset.univ fun g => zTok c g)

/-- At the region's entry every cell of its own is opened with the counter that the region brings. -/
theorem dealt_opened (c : Dev nD) : iprop(Dealt V c ∗ Pipeline.ownSems0 osem c ∗ levAts L lv) ⊢ (|={Set.univ}=> Opened V c : sProp 𝕄) := by
  unfold Dealt Opened
  iintro ⟨⟨⟨%κ, #HI⟩, Hb, Ho, Hx, Hz⟩, Hs, #Hlev⟩
  ihave Hos := (show iprop((bigSep Finset.univ fun k : KI => openTok ER (kcell (c, some k))) ∗ Pipeline.ownSems0 osem c)
      ⊢ (bigSep Finset.univ fun k : KI => iprop(openTok ER (kcell (c, some k)) ∗ semVal (kcell (c, some k)) 0) : sProp 𝕄) from
    Entails.of_eq (bigSep_sep' _ (fun k : KI => (openTok ER (kcell (c, some k)) : sProp 𝕄)) (fun k : KI => (semVal (kcell (c, some k)) 0 : sProp 𝕄))).symm) $$ [Ho Hs]
  · isplitl [Ho] <;> iassumption
  imod ((bigSep_with_persistent (R := recs (bA V) (bW V) κ)
      (Φ := fun k : KI => iprop(openTok ER (kcell (c, some k)) ∗ semVal (kcell (c, some k)) 0))
      (Ψ := fun k : KI => iprop(|={Set.univ}=> (atPos ER (kcell (c, some k)) 0 ∅ 0 ∗ reached ER (kcell (c, some k)) 0)))
      fun k _ => (sep_mono_left (rec_at (bA V) (bW V) κ (c, some k))).trans
        (Rounds.cell_open ER (sched (bA V) (bW V)) (g := kcell (c, some k)) (Set.mem_univ _))).trans (bigSep_fupd _ _)) $$ [Hos] with Hat
  · isplitr; · iexact HI
    iexact Hos
  imodintro
  isplitr; · iexists κ; iexact HI
  isplitr; · iexact Hlev
  isplitl [Hb]; · iexact Hb
  isplitl [Hat]; · iexact Hat
  isplitl [Hx] <;> iassumption

/-- A conjunction over the region's cells is one over the rows and the groups. -/
theorem bigSep_KI (Φ : KI → sProp 𝕄) : bigSep Finset.univ Φ
    = iprop(((bigSep Finset.univ fun j => Φ (.inl (.inl j))) ∗ bigSep Finset.univ fun j => Φ (.inl (.inr j)))
        ∗ (bigSep Finset.univ fun g => Φ (.inr (.inl g))) ∗ bigSep Finset.univ fun g => Φ (.inr (.inr g))) := by
  rw [bigSep_univ_sum, bigSep_univ_sum, bigSep_univ_sum]; rfl

theorem at_some {α : Type} (P : α → sProp 𝕄) (a : α) : P a ⊢ iprop(∃ x, P x) := by
  iintro H; iexists a; iexact H
theorem split_xs (c : Dev nD) : (iprop(∃ f : Buf (Elt F) ((c : Thread nD τ).loc cc0_scratch0), ((c : Thread nD τ).loc cc0_scratch0) ↦{fullShare} f) : sProp 𝕄)
    ⊢ bigSep Finset.univ fun j : Fin 16 => iprop(∃ f, pXs c j f) := by
  have h (f) : (((c : Thread nD τ).loc cc0_scratch0) ↦{fullShare} f : sProp 𝕄) ⊢ bigSep Finset.univ fun j : Fin 16 => iprop(∃ f, pXs c j f) :=
    (Entails.of_eq (Ring.pointsTo_blocks (ℓ := (c : Thread nD τ).loc cc0_scratch0) (fun j : Fin 16 => sX j) sX_disjoint sX_cover f)).trans
      (bigSep_mono fun j _ => at_some (fun f => pXs c j f) f)
  iintro ⟨%f, H⟩
  iapply (h f); iexact H
theorem split_xr (c : Dev nD) : (iprop(∃ f : Buf (Elt F) ((c : Thread nD τ).loc cc0_scratch1), ((c : Thread nD τ).loc cc0_scratch1) ↦{fullShare} f) : sProp 𝕄)
    ⊢ bigSep Finset.univ fun j : Fin 16 => iprop(∃ f, pXr c j f) := by
  have h (f) : (((c : Thread nD τ).loc cc0_scratch1) ↦{fullShare} f : sProp 𝕄) ⊢ bigSep Finset.univ fun j : Fin 16 => iprop(∃ f, pXr c j f) :=
    (Entails.of_eq (Ring.pointsTo_blocks (ℓ := (c : Thread nD τ).loc cc0_scratch1) (fun j : Fin 16 => sX j) sX_disjoint sX_cover f)).trans
      (bigSep_mono fun j _ => at_some (fun f => pXr c j f) f)
  iintro ⟨%f, H⟩
  iapply (h f); iexact H
theorem split_fn (c : Dev nD) : (iprop(∃ f : Buf (Elt F) ((c : Thread nD τ).loc cc0_scratch2), ((c : Thread nD τ).loc cc0_scratch2) ↦{fullShare} f) : sProp 𝕄)
    ⊢ bigSep Finset.univ fun g : Fin 8 => iprop(∃ f, pFn c g f) := by
  have h (f) : (((c : Thread nD τ).loc cc0_scratch2) ↦{fullShare} f : sProp 𝕄) ⊢ bigSep Finset.univ fun g : Fin 8 => iprop(∃ f, pFn c g f) :=
    (Entails.of_eq (Ring.pointsTo_blocks (ℓ := (c : Thread nD τ).loc cc0_scratch2) (fun g : Fin 8 => sZ g) sZ_disjoint sZ_cover f)).trans
      (bigSep_mono fun g _ => at_some (fun f => pFn c g f) f)
  iintro ⟨%f, H⟩
  iapply (h f); iexact H
theorem split_rz (c : Dev nD) : (iprop(∃ f : Buf (Elt F) ((c : Thread nD τ).loc cc0_scratch3), ((c : Thread nD τ).loc cc0_scratch3) ↦{fullShare} f) : sProp 𝕄)
    ⊢ bigSep Finset.univ fun g : Fin 8 => iprop(∃ f, pRz c g f) := by
  have h (f) : (((c : Thread nD τ).loc cc0_scratch3) ↦{fullShare} f : sProp 𝕄) ⊢ bigSep Finset.univ fun g : Fin 8 => iprop(∃ f, pRz c g f) :=
    (Entails.of_eq (Ring.pointsTo_blocks (ℓ := (c : Thread nD τ).loc cc0_scratch3) (fun g : Fin 8 => sZ g) sZ_disjoint sZ_cover f)).trans
      (bigSep_mono fun g _ => at_some (fun f => pRz c g f) f)
  iintro ⟨%f, H⟩
  iapply (h f); iexact H

/-- A row's holdings, put together. -/
theorem xrow_intro (c : Dev nD) (j : Fin 16) :
    iprop((∃ f, pXs c j f) ∗ (∃ f, pXr c j f) ∗ (atPos ER (xsCell c j) 0 ∅ 0 ∗ reached ER (xsCell c j) 0)
        ∗ (atPos ER (xrCell c j) 0 ∅ 0 ∗ reached ER (xrCell c j) 0) ∗ xTok c j) ⊢ (iprop(xOwn c j ∗ xGive c j) : sProp 𝕄) := by
  unfold xOwn xGive xTok
  iintro ⟨Hs, Hr, ⟨Has, Hrs⟩, ⟨Har, Hrr⟩, Ht, Ht', Hc⟩
  isplitr [Hr Hrr]
  · isplitl [Hs]; · iexact Hs
    isplitl [Ht]; · iexact Ht
    isplitl [Ht']; · iexact Ht'
    isplitl [Has]; · iexact Has
    isplitl [Har]; · iexact Har
    isplitl [Hrs] <;> iassumption
  isplitl [Hr] <;> iassumption
/-- A group's. -/
theorem zgrp_intro (c : Dev nD) (g : Fin 8) :
    iprop((∃ f, pFn c g f) ∗ (∃ f, pRz c g f) ∗ (atPos ER (zsCell c g) 0 ∅ 0 ∗ reached ER (zsCell c g) 0)
        ∗ (atPos ER (zrCell c g) 0 ∅ 0 ∗ reached ER (zrCell c g) 0) ∗ zTok c g) ⊢ (iprop(zOwn (bA V) (bW V) c 0 g ∗ zGive c g) : sProp 𝕄) := by
  unfold zOwn zGive zTok
  iintro ⟨⟨%f, Hs⟩, Hr, ⟨Has, Hrs⟩, ⟨Har, Hrr⟩, Ht, Ht', Hc⟩
  isplitr [Hr Hrr]
  · isplitl [Hs]
    · iexists f
      isplitr; · ipureintro; exact fun h => absurd h (Nat.not_lt_zero _)
      iexact Hs
    isplitl [Ht]; · iexact Ht
    isplitl [Ht']; · iexact Ht'
    isplitl [Has]; · iexact Has
    isplitl [Har]; · iexact Har
    isplitl [Hrs] <;> iassumption
  isplitl [Hr] <;> iassumption

/-- All rows', -/
theorem xrows_intro (c : Dev nD) :
    iprop((bigSep Finset.univ fun j : Fin 16 => iprop(∃ f, pXs c j f)) ∗ (bigSep Finset.univ fun j : Fin 16 => iprop(∃ f, pXr c j f))
        ∗ (bigSep Finset.univ fun j : Fin 16 => iprop(atPos ER (xsCell c j) 0 ∅ 0 ∗ reached ER (xsCell c j) 0))
        ∗ (bigSep Finset.univ fun j : Fin 16 => iprop(atPos ER (xrCell c j) 0 ∅ 0 ∗ reached ER (xrCell c j) 0))
        ∗ bigSep Finset.univ fun j : Fin 16 => xTok c j)
      ⊢ (iprop((bigSep Finset.univ fun j => xOwn c j) ∗ bigSep Finset.univ fun j => xGive c j) : sProp 𝕄) := by
  rw [← bigSep_sep', ← bigSep_sep', ← bigSep_sep', ← bigSep_sep', ← bigSep_sep']
  exact bigSep_mono fun j _ => xrow_intro c j
/-- and all groups'. -/
theorem zgrps_intro (c : Dev nD) :
    iprop((bigSep Finset.univ fun g : Fin 8 => iprop(∃ f, pFn c g f)) ∗ (bigSep Finset.univ fun g : Fin 8 => iprop(∃ f, pRz c g f))
        ∗ (bigSep Finset.univ fun g : Fin 8 => iprop(atPos ER (zsCell c g) 0 ∅ 0 ∗ reached ER (zsCell c g) 0))
        ∗ (bigSep Finset.univ fun g : Fin 8 => iprop(atPos ER (zrCell c g) 0 ∅ 0 ∗ reached ER (zrCell c g) 0))
        ∗ bigSep Finset.univ fun g : Fin 8 => zTok c g)
      ⊢ (iprop((bigSep Finset.univ fun g => zOwn (bA V) (bW V) c 0 g) ∗ bigSep Finset.univ fun g => zGive c g) : sProp 𝕄) := by
  rw [← bigSep_sep', ← bigSep_sep', ← bigSep_sep', ← bigSep_sep', ← bigSep_sep']
  exact bigSep_mono fun g _ => zgrp_intro V c g

/-- The invariant at the first point, from the open cells and the scratch buffers. -/
theorem start_intro (c : Dev nD) : iprop(Opened V c ∗ Pipeline.scopedRest spec0 c) ⊢ (Start (bA V) (bW V) c : sProp 𝕄) := by
  rw [scopedRest0_eq]
  unfold Opened Start barTok
  rw [bigSep_KI]
  iintro ⟨⟨HI, Hlev, Hb, ⟨⟨Hxs, Hxr⟩, Hzs, Hzr⟩, Hxt, Hzt⟩, H0, H1, H2, H3⟩
  ihave H0 := (split_xs (F := F) c) $$ H0
  ihave H1 := (split_xr (F := F) c) $$ H1
  ihave H2 := (split_fn (F := F) c) $$ H2
  ihave H3 := (split_rz (F := F) c) $$ H3
  isplitl [HI]; · iexact HI
  isplitl [Hlev]; · iexact Hlev
  isplitl [Hb]; · iexact Hb
  isplitl [H0 H1 Hxs Hxr Hxt]
  · iapply (xrows_intro (F := F) c)
    isplitl [H0]; · iexact H0
    isplitl [H1]; · iexact H1
    isplitl [Hxs]; · iexact Hxs
    isplitl [Hxr] <;> iassumption
  · iapply (zgrps_intro V c)
    isplitl [H2]; · iexact H2
    isplitl [H3]; · iexact H3
    isplitl [Hzs]; · iexact Hzs
    isplitl [Hzr] <;> iassumption

/-- At the last point every row and every group is done, so all counters and the scratch buffers are back. -/
theorem last_out (c : Dev nD) : (St (bA V) (bW V) c 48 : sProp 𝕄) ⊢ iprop(semVal (barCell c) 0 ∗ Pipeline.ownSems0 osem c ∗ Pipeline.scopedRest spec0 c) := by
  rw [scopedRest0_eq, show (Pipeline.ownSems0 osem c : sProp 𝕄) = _ from bigSep_KI (fun k : KI => semVal ((c : Thread nD τ), osem k) 0)]
  unfold St
  rw [bigSep_congr fun (j : Fin 16) _ => xslot_done (F := F) c (t := 48) (j := j) (by omega),
    bigSep_congr fun (g : Fin 8) _ => zslot_done (bA V) (bW V) c (t := 48) (g := g) (by omega)]
  unfold xDone zDone
  simp only [bigSep_sep']
  iintro ⟨-, -, Hb, ⟨H0, H1, Hxs, Hxr⟩, H2, H3, Hzs, Hzr⟩
  isplitl [Hb]; · iexact Hb
  isplitl [Hxs Hxr Hzs Hzr]
  · isplitl [Hxs Hxr]; · isplitl [Hxs] <;> iassumption
    isplitl [Hzs] <;> iassumption
  isplitl [H0]; · iapply (Ring.pointsTo_blocks_join_exists (ℓ := (c : Thread nD τ).loc cc0_scratch0) (fun j : Fin 16 => sX j) sX_disjoint sX_cover (XS (bA V) (bW V) c)); iexact H0
  isplitl [H1]; · iapply (Ring.pointsTo_blocks_join_exists (ℓ := (c : Thread nD τ).loc cc0_scratch1) (fun j : Fin 16 => sX j) sX_disjoint sX_cover (XS (bA V) (bW V) c)); iexact H1
  isplitl [H2]; · iapply (Ring.pointsTo_blocks_join_exists (ℓ := (c : Thread nD τ).loc cc0_scratch2) (fun g : Fin 8 => sZ g) sZ_disjoint sZ_cover (FN (bA V) (bW V) c)); iexact H2
  iapply (Ring.pointsTo_blocks_join_exists (ℓ := (c : Thread nD τ).loc cc0_scratch3) (fun g : Fin 8 => sZ g) sZ_disjoint sZ_cover (FN (bA V) (bW V) c))
  iapply (show (bigSep Finset.univ fun g : Fin 8 => pRz c g (RZ (bA V) (bW V) c)) ⊢ (bigSep Finset.univ fun g : Fin 8 => iprop(∃ f, pRz c g f) : sProp 𝕄) from
    bigSep_mono fun g _ => at_some (fun f => pRz c g f) _)
  iexact H3

/-! ## The region -/

def edats : (p : Fin 1) → (c : Dev nD) → Pipeline.Dat τ (Elt F) Unit ℕ UU ℕ (Pipeline.pin (pcfgs (F := F)) adm p) c := fun _ c => dat V c
def rdats : (p : Fin 1) → (c : Dev nD) → Pipeline.RDat τ (Elt F) Unit ℕ UU ℕ (Pipeline.pin (pcfgs (F := F)) adm p) c :=
  fun _ c => (dat V c).toRRel fgt (Rl V c)

theorem share_eq (c : Dev nD) (w : Fin cfg0.W) : (dat V c).share w = fullShare := by unfold Pipeline.Dat.share; split <;> rfl

/-- What the output array may hold after the region. -/
def Outs0 (c : Dev nD) : Type := {G : Buf (Elt F) ((c : Thread nD τ).loc main_v30) // (rdats V 0 c).ArrAt 2 48 G}
/-- The host state after the region, of such contents. -/
abbrev after0 (c : Dev nD) (γ : Outs0 V c) : Valuation τ sig (Elt F) := Function.update (V c) (Proc.devRef .tc main_v30) γ.1

theorem kit0 : Pipeline.PLaunchFacts (nD := nD) (τ := τ) (pcfgs (F := F)) 0 := launch0.toP
theorem arrRefs_sub : Pipeline.arrRefs (τ := τ) spec0 ⊆ Pipeline.ucRefs τ sig := Pipeline.arrRefs_sub_ucRefs spec0 (by decide)

/-- The arrays at the entry, as host buffers. -/
theorem arrays_in (c : Dev nD) : ((rdats V 0 c).arrays (rdats V 0 c).A : sProp 𝕄) = StableHlo.held (c : Thread nD τ) (Pipeline.arrRefs (τ := τ) spec0) (V c) :=
  Pipeline.arrays_held (pcfgs (F := F)) adm (edats V) 0 kit0 c (share_eq V c) (dat V c).A (V c)
    fun w => match w with | 0 => rfl | 1 => rfl | 2 => rfl | ⟨_ + 3, h⟩ => absurd h (Nat.not_lt.2 (Nat.le_add_left _ _))

/-- The arrays after the region: the inputs as they were, the output at some contents that the sweeps allow. -/
theorem arraysAt_out (c : Dev nD) : ((rdats V 0 c).arraysAt 48 : sProp 𝕄)
    ⊢ iprop(∃ γ : Outs0 V c, StableHlo.held (c : Thread nD τ) (Pipeline.arrRefs (τ := τ) spec0) (after0 V c γ)) := by
  have hfin : ∀ (A : (w : Fin cfg0.W) → Buf (Elt F) ((cfg0.win w).arr.view.loc (c.tc : Thread nD τ))) (hA : ∀ w, (rdats V 0 c).ArrAt w 48 (A w)),
      ((rdats V 0 c).arrays A : sProp 𝕄) ⊢ StableHlo.held (c : Thread nD τ) (Pipeline.arrRefs (τ := τ) spec0) (after0 V c ⟨A 2, hA 2⟩) := fun A hA => by
    have e0 : A 0 = V c (Proc.devRef .tc main_v24) := by
      have h := hA 0; rw [(rdats V 0 c).ArrAt_in 0 rfl 48] at h; exact h
    have e1 : A 1 = V c (Proc.devRef .tc main_v29) := by
      have h := hA 1; rw [(rdats V 0 c).ArrAt_in 1 rfl 48] at h; exact h
    exact Entails.of_eq (Pipeline.arrays_held (pcfgs (F := F)) adm (edats V) 0 kit0 c (share_eq V c) A (after0 V c ⟨A 2, hA 2⟩) fun w => match w with
      | 0 => e0.trans (Function.update_of_ne (StableHlo.devRef_ne_of_ne (by decide : main_v24 ≠ main_v30)) _ _).symm
      | 1 => e1.trans (Function.update_of_ne (StableHlo.devRef_ne_of_ne (by decide : main_v29 ≠ main_v30)) _ _).symm
      | 2 => (Function.update_self (f := V c) (Proc.devRef .tc main_v30) (A 2)).symm
      | ⟨_ + 3, h⟩ => absurd h (Nat.not_lt.2 (Nat.le_add_left _ _)))
  unfold Pipeline.RDat.arrays at hfin
  unfold Pipeline.RDat.arraysAt
  refine (bigSep_exists_pi Finset.univ _).trans ?_
  iintro ⟨%A, H⟩
  ihave H' := (bigSep_pure_sep Finset.univ (fun w => (rdats V 0 c).ArrAt w 48 (A w)) _) $$ H
  icases H' with ⟨%hA, H⟩
  iexists ⟨A 2, hA 2 (Finset.mem_univ _)⟩
  iapply (hfin A fun w => hA w (Finset.mem_univ w))
  iexact H

theorem rest_join (c : Dev nD) (γ : Outs0 V c) : iprop(StableHlo.held (c : Thread nD τ) (Pipeline.arrRefs (τ := τ) spec0) (after0 V c γ)
      ∗ StableHlo.held (c : Thread nD τ) (Pipeline.ucRefs τ sig \ Pipeline.arrRefs (τ := τ) spec0) (V c))
    ⊢ (StableHlo.held (c : Thread nD τ) (Pipeline.ucRefs τ sig) (after0 V c γ) : sProp 𝕄) := by
  rw [StableHlo.held_sub_split (c : Thread nD τ) arrRefs_sub (after0 V c γ),
    StableHlo.held_congr (c : Thread nD τ) (S := Pipeline.ucRefs τ sig \ Pipeline.arrRefs (τ := τ) spec0) (V := after0 V c γ) (V' := V c) fun b hb =>
      Function.update_of_ne (fun e : b = Proc.devRef .tc main_v30 => (Finset.mem_sdiff.mp hb).2 (by rw [e]; decide)) _ _]
theorem owed_last (c : Dev nD) : owed c 48 = 0 := by
  unfold owed; rw [if_neg (by decide), owX_done c 48 (by decide), owZ_done c 48 (by decide), add_zero]
theorem own_sems : Pipeline.OwnSemFacts spec0 osem := by decide
theorem stage_low : ∀ (w : Fin 3) (s : Fin (win0 w).nbuf), ((win0 w).sem s).val < 22 := by decide

set_option backward.isDefEq.respectTransparency.types false in
/-- The kernel's region: entered with what the launch dealt, left with the output array at some contents that the sweeps allow. -/
def reg : Pipeline.RDat.RegionSeg (pcfgs (F := F)) adm (rdats V) () (defs₀ (F := F)) 𝒱₀ L lv 0 where
  win := winFacts0.to₀
  block_pos := block_pos0
  stage_whole := stage_whole0
  K := KI
  osem := osem
  ho := own_sems
  hbody c := (body_rel V c).toRRel
  hwaits c := Pipeline.RDat.cellsWaits_intro (Pipeline.pin (pcfgs (F := F)) adm) (rdats V) () 0 c fun w s t =>
    mayWait_of c _ 0 (owed c t.val) (above_owed c t.val) (le_of_eq (lv_low c _ (stage_low w s)))
  pre c := iprop(StableHlo.held (c : Thread nD τ) (Pipeline.ucRefs τ sig) (V c) ∗ Dealt V c ∗ ∃ W, owes (c : Thread nD τ) (O₀ c) W)
  post c := iprop((∃ γ : Outs0 V c, StableHlo.held (c : Thread nD τ) (Pipeline.ucRefs τ sig) (after0 V c γ))
    ∗ semVal (barCell c) 0 ∗ ∃ W, owes (c : Thread nD τ) (0 : CellTallies nD τ sig Unit) W)
  X c := Opened V c
  Y c := semVal (barCell c) 0
  Z c := StableHlo.held (c : Thread nD τ) (Pipeline.ucRefs τ sig \ Pipeline.arrRefs (τ := τ) spec0) (V c)
  hentry c := by
    rw [Pipeline.prefHeld_of_none _ rfl, StableHlo.held_sub_split (c : Thread nD τ) arrRefs_sub (V c), ← arrays_in V c]
    iintro ⟨⟨⟨Ha, Hr⟩, Hd, ⟨%W, HO⟩⟩, Hs, Hlev⟩
    imod (dealt_opened V c) $$ [Hd Hs Hlev] with HX
    · isplitl [Hd]; · iexact Hd
      isplitl [Hs] <;> iassumption
    imodintro
    isplitl [Ha]; · iexact Ha
    isplitr; · iempintro
    isplitl [HO]; · iapply (owesAt_in V c 0 W); iexact HO
    isplitl [HX] <;> iassumption
  hin c := (show _ ⊢ iprop(Opened V c ∗ Pipeline.scopedRest spec0 c) from by
    iintro ⟨HX, -, Hr⟩
    isplitl [HX] <;> iassumption).trans (start_intro V c)
  hout c := last_out V c
  hexit c := by
    show iprop((rdats V 0 c).arraysAt 48 ∗ (dat V c).owesAt () (Fin.last 48) ∗ semVal (barCell c) 0
      ∗ StableHlo.held (c : Thread nD τ) (Pipeline.ucRefs τ sig \ Pipeline.arrRefs (τ := τ) spec0) (V c)) ⊢ _
    iintro ⟨Ha, HO, Hb, Hr⟩
    ihave Ha := (arraysAt_out V c) $$ Ha
    ihave HO := (owesAt_out V c (Fin.last 48)) $$ HO
    icases Ha with ⟨%γ, Ha⟩
    imodintro
    isplitl [Ha Hr]
    · iexists γ
      iapply (rest_join V c γ)
      isplitl [Ha] <;> iassumption
    isplitl [Hb]; · iexact Hb
    icases HO with ⟨%W, HO⟩; iexists W
    iapply (Entails.of_eq (congrArg (fun O => (owes (c : Thread nD τ) O W : sProp 𝕄)) (owed_last c))); iexact HO

end Cert.MeshProof
end
-- ==== Proof.Launch.lean ====
/-
The launch.

What the whole mesh holds at the start is dealt to the devices: every device keeps its own cells and hands the right
to arrive at them to the neighbour that will. The run of the whole program follows: the host lines before the
kernel, the kernel's region, the host lines after it.
-/
module

public import proofs.«01_k».proof.Proof.Region
public import Idealize.ShloMosaic.Lib.Pipeline.RegionsOwned

@[expose] public section

noncomputable section

namespace Cert.MeshProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx (ix2 ix3 eq_ix2 eq_ix3)

variable {F : FTy → Type} [FloatOps F]

local notation "𝕄" => MT nD τ sig Unit (Elt F) ℕ UU ℕ

/-! ## The cells and the tokens -/

def barEmb : Dev nD ↪ GSem nD τ sig := ⟨fun c => barCell c, fun _ _ h => congrArg (fun g : GSem nD τ sig => g.1.1) h⟩
def ownEmb : Dev nD × KI ↪ GSem nD τ sig :=
  ⟨fun ck => ((ck.1 : Thread nD τ), osem ck.2), fun _ _ h =>
    Prod.ext (congrArg (fun g : GSem nD τ sig => g.1.1) h) (osem_inj (congrArg Prod.snd h))⟩
theorem osem_ne_bar : ∀ k : KI, osem k ≠ .reg barS
  | .inl (.inl _) | .inl (.inr _) | .inr (.inl _) | .inr (.inr _) => fun h => nomatch h
theorem kcell_inj : Function.Injective (kcell : Dev nD × Option KI → GSem nD τ sig)
  | (c, none), (d, none), h => by rw [show c = d from congrArg (fun g : GSem nD τ sig => g.1.1) h]
  | (c, none), (d, some k), h => absurd (congrArg Prod.snd h).symm (osem_ne_bar k)
  | (c, some k), (d, none), h => absurd (congrArg Prod.snd h) (osem_ne_bar k)
  | (c, some k), (d, some l), h => by
    rw [show c = d from congrArg (fun g : GSem nD τ sig => g.1.1) h, osem_inj (show osem k = osem l from congrArg Prod.snd h)]
def allEmb : Dev nD × Option KI ↪ GSem nD τ sig := ⟨kcell, kcell_inj⟩

/-- The cells whose counters the launch hands over, and those that the region opens. -/
abbrev barCells : Finset (GSem nD τ sig) := Finset.univ.map barEmb
abbrev ownCells : Finset (GSem nD τ sig) := Finset.univ.map ownEmb
theorem cells_disjoint : Disjoint (barCells : Finset (GSem nD τ sig)) ownCells := by
  rw [Finset.disjoint_left]
  rintro g h₁ h₂
  obtain ⟨c, -, rfl⟩ := Finset.mem_map.mp h₁
  obtain ⟨ck, -, h⟩ := Finset.mem_map.mp h₂
  exact osem_ne_bar ck.2 (congrArg Prod.snd h)
theorem all_sub : (Finset.univ.map allEmb : Finset (GSem nD τ sig)) ⊆ barCells ∪ ownCells := by
  intro g hg
  obtain ⟨⟨c, k⟩, -, rfl⟩ := Finset.mem_map.mp hg
  cases k with
  | none => exact Finset.mem_union_left _ (Finset.mem_map_of_mem barEmb (Finset.mem_univ c))
  | some k => exact Finset.mem_union_right _ (Finset.mem_map_of_mem ownEmb (Finset.mem_univ (c, k)))

/-- The duties of a device's cells: two at the barrier, one at each other. -/
abbrev tokOf (ck : Dev nD × (Bool ⊕ KI)) : GSem nD τ sig × ℕ × Bool :=
  match ck.2 with
  | .inl b => (barCell ck.1, 0, b)
  | .inr k => (kcell (ck.1, some k), 0, true)
theorem tokOf_inj : Function.Injective (tokOf : Dev nD × (Bool ⊕ KI) → GSem nD τ sig × ℕ × Bool)
  | (c, .inl a), (d, .inl b), h => by
    rw [show c = d from congrArg (fun g : GSem nD τ sig × ℕ × Bool => g.1.1.1) h, show a = b from congrArg (fun g : GSem nD τ sig × ℕ × Bool => g.2.2) h]
  | (c, .inl a), (d, .inr k), h => absurd (congrArg (fun g : GSem nD τ sig × ℕ × Bool => g.1.2) h).symm (osem_ne_bar k)
  | (c, .inr k), (d, .inl b), h => absurd (congrArg (fun g : GSem nD τ sig × ℕ × Bool => g.1.2) h) (osem_ne_bar k)
  | (c, .inr k), (d, .inr l), h => by
    rw [show c = d from congrArg (fun g : GSem nD τ sig × ℕ × Bool => g.1.1.1) h,
      osem_inj (show osem k = osem l from congrArg (fun g : GSem nD τ sig × ℕ × Bool => g.1.2) h)]
def allToks : Finset (GSem nD τ sig × ℕ × Bool) := Finset.univ.map ⟨tokOf, tokOf_inj⟩

theorem sep_bool (Φ : Bool → sProp 𝕄) : bigSep Finset.univ Φ = iprop(Φ true ∗ Φ false) := by
  rw [show (Finset.univ : Finset Bool) = {true, false} by decide, bigSep_insert (by decide), bigSep_singleton]; rfl

/-- The tokens of a device's own cells. -/
def toks (c : Dev nD) : sProp 𝕄 :=
  iprop(dutyTok ER (barCell c) 0 true ∗ dutyTok ER (barCell c) 0 false
    ∗ (bigSep Finset.univ fun j : Fin 16 => dutyTok ER (xsCell c j) 0 true) ∗ (bigSep Finset.univ fun j : Fin 16 => dutyTok ER (xrCell c j) 0 true)
    ∗ (bigSep Finset.univ fun g : Fin 8 => dutyTok ER (zsCell c g) 0 true) ∗ bigSep Finset.univ fun g : Fin 8 => dutyTok ER (zrCell c g) 0 true)
/-- The tokens with which a device pays. -/
def pays (c : Dev nD) : sProp 𝕄 :=
  iprop(dutyTok ER (barCell (xp c)) 0 true ∗ dutyTok ER (barCell (zp c)) 0 false
    ∗ (bigSep Finset.univ fun j : Fin 16 => dutyTok ER (xsCell c j) 0 true) ∗ (bigSep Finset.univ fun j : Fin 16 => dutyTok ER (xrCell (xp c) j) 0 true)
    ∗ (bigSep Finset.univ fun g : Fin 8 => dutyTok ER (zsCell c g) 0 true) ∗ bigSep Finset.univ fun g : Fin 8 => dutyTok ER (zrCell (zp c) g) 0 true)

theorem toks_eq : bigSep allToks (fun x => (dutyTok ER x.1 x.2.1 x.2.2 : sProp 𝕄)) = bigSep Finset.univ fun c : Dev nD => toks c := by
  unfold allToks; rw [bigSep_map, bigSep_univ_prod]
  refine bigSep_congr fun c _ => ?_
  unfold toks
  rw [bigSep_univ_sum, sep_bool, bigSep_univ_sum, bigSep_univ_sum, bigSep_univ_sum]
  have flat (A B C : sProp 𝕄) : iprop((A ∗ B) ∗ C) = iprop(A ∗ B ∗ C) := BI.sep_assoc.antisymm BI.sep_assoc'
  exact (flat _ _ _).trans (congrArg (fun X : sProp 𝕄 => iprop(dutyTok ER (barCell c) 0 true ∗ dutyTok ER (barCell c) 0 false ∗ X)) (flat _ _ _))

theorem toks_around : (bigSep Finset.univ fun c : Dev nD => (toks c : sProp 𝕄)) = bigSep Finset.univ fun c : Dev nD => pays c := by
  unfold toks pays
  rw [bigSep_sep', bigSep_sep', bigSep_sep', bigSep_sep', bigSep_sep', bigSep_sep', bigSep_sep', bigSep_sep', bigSep_sep', bigSep_sep',
    bigSep_univ_equiv xpEquiv (fun c : Dev nD => (dutyTok ER (barCell c) 0 true : sProp 𝕄)),
    bigSep_univ_equiv zpEquiv (fun c : Dev nD => (dutyTok ER (barCell c) 0 false : sProp 𝕄)),
    bigSep_univ_equiv xpEquiv (fun c : Dev nD => (bigSep Finset.univ fun j : Fin 16 => dutyTok ER (xrCell c j) 0 true : sProp 𝕄)),
    bigSep_univ_equiv zpEquiv (fun c : Dev nD => (bigSep Finset.univ fun g : Fin 8 => dutyTok ER (zrCell c g) 0 true : sProp 𝕄))]
  rfl

/-! ## The credits of the dues -/

theorem tally_dev (c e : Dev nD) (s s' : SemLoc sig) (n : ℕ) :
    (tallyAt ((e : Thread nD τ), s) () n : CellTallies nD τ sig Unit) ((c : Thread nD τ), s') () = if s' = s ∧ c = e then n else 0 := by
  rw [tallyAt_apply]
  by_cases h : s' = s ∧ c = e
  · obtain ⟨rfl, rfl⟩ := h
    rw [if_pos ⟨rfl, rfl⟩, if_pos ⟨rfl, rfl⟩]
  · rw [if_neg h, if_neg]
    rintro ⟨h1, -⟩
    exact h ⟨congrArg Prod.snd h1, congrArg (fun g : GSem nD τ sig => g.1.1) h1⟩

theorem xp_swap (c d : Dev nD) : c = xp d ↔ d = xp c := ⟨fun h => by rw [h, xp_xp], fun h => by rw [h, xp_xp]⟩
theorem zp_swap (c d : Dev nD) : c = zp d ↔ d = zp c := ⟨fun h => by rw [h, zp_zp], fun h => by rw [h, zp_zp]⟩

theorem owX_at (d c : Dev nD) (s : SemLoc sig) :
    owX d 0 ((c : Thread nD τ), s) () = ∑ j : Fin 16, if s = .dma (xrS j) ∧ c = xp d then NX else 0 := by
  unfold owX
  rw [Finset.sum_apply, Finsupp.finset_sum_apply]
  exact Finset.sum_congr rfl fun j _ => by rw [if_pos (Nat.zero_le _), tally_dev]
theorem owZ_at (d c : Dev nD) (s : SemLoc sig) :
    owZ d 0 ((c : Thread nD τ), s) () = ∑ g : Fin 8, if s = .dma (zrS g) ∧ c = zp d then NZ else 0 := by
  unfold owZ
  rw [Finset.sum_apply, Finsupp.finset_sum_apply]
  exact Finset.sum_congr rfl fun j _ => by rw [if_pos (Nat.zero_le _), tally_dev]
theorem owed_at (d c : Dev nD) (s : SemLoc sig) :
    O₀ d ((c : Thread nD τ), s) () = (((∑ j : Fin 16, if s = .dma (xrS j) ∧ c = xp d then NX else 0) + ∑ g : Fin 8, if s = .dma (zrS g) ∧ c = zp d then NZ else 0)
      + if s = .reg barS ∧ c = zp d then 1 else 0) + if s = .reg barS ∧ c = xp d then 1 else 0 := by
  unfold O₀
  rw [Pi.add_apply, Pi.add_apply, Pi.add_apply, Finsupp.add_apply, Finsupp.add_apply, Finsupp.add_apply, owX_at, owZ_at, tally_dev, tally_dev]

theorem xr_inj (i j : Fin 16) : (SemLoc.dma (xrS i) : SemLoc sig) = .dma (xrS j) ↔ i = j := by
  refine ⟨fun h => ?_, fun h => by rw [h]⟩
  have := osem_inj (show osem (.inl (.inr i)) = osem (.inl (.inr j)) from h)
  cases this; rfl
theorem zr_inj (i j : Fin 8) : (SemLoc.dma (zrS i) : SemLoc sig) = .dma (zrS j) ↔ i = j := by
  refine ⟨fun h => ?_, fun h => by rw [h]⟩
  have := osem_inj (show osem (.inr (.inr i)) = osem (.inr (.inr j)) from h)
  cases this; rfl
theorem xr_ne_zr (i : Fin 16) (g : Fin 8) : (SemLoc.dma (xrS i) : SemLoc sig) ≠ .dma (zrS g) := fun h =>
  nomatch osem_inj (show osem (.inl (.inr i)) = osem (.inr (.inr g)) from h)

theorem reg_ne_dma (q : DmaSem sig) (P : Prop) : ¬((SemLoc.reg barS : SemLoc sig) = .dma q ∧ P) := fun h => by cases h.1
theorem dma_ne_reg (q : DmaSem sig) (P : Prop) : ¬((SemLoc.dma q : SemLoc sig) = .reg barS ∧ P) := fun h => by cases h.1

theorem owed_bar (d c : Dev nD) : O₀ d (barCell c) () = (if d = zp c then 1 else 0) + if d = xp c then 1 else 0 := by
  rw [owed_at, Finset.sum_eq_zero fun j _ => if_neg (reg_ne_dma _ _), Finset.sum_eq_zero fun j _ => if_neg (reg_ne_dma _ _)]
  simp only [_root_.true_and, zero_add, zp_swap c d, xp_swap c d]
theorem owed_xr (d c : Dev nD) (j : Fin 16) : O₀ d (xrCell c j) () = if d = xp c then NX else 0 := by
  rw [owed_at, Finset.sum_eq_single j (fun i _ hi => if_neg fun h => hi ((xr_inj j i).mp h.1).symm) (fun h => absurd (Finset.mem_univ j) h),
    Finset.sum_eq_zero fun g _ => if_neg fun h => xr_ne_zr j g h.1, if_neg (dma_ne_reg _ _), if_neg (dma_ne_reg _ _)]
  simp only [_root_.true_and, add_zero, xp_swap c d]
theorem owed_zr (d c : Dev nD) (g : Fin 8) : O₀ d (zrCell c g) () = if d = zp c then NZ else 0 := by
  rw [owed_at, Finset.sum_eq_zero fun j _ => if_neg fun h => xr_ne_zr j g h.1.symm,
    Finset.sum_eq_single g (fun i _ hi => if_neg fun h => hi ((zr_inj g i).mp h.1).symm) (fun h => absurd (Finset.mem_univ g) h),
    if_neg (dma_ne_reg _ _), if_neg (dma_ne_reg _ _)]
  simp only [_root_.true_and, add_zero, zero_add, zp_swap c d]

theorem credit_bar (c : Dev nD) :
    tallyOn (barCell c) (launchCredit (Pipeline.owing O₀) 0 (barCell c)) = (tallyAt (barCell c) () 2 : CellTallies nD τ sig Unit) := by
  unfold tallyAt; refine congrArg _ (Finsupp.ext fun u => ?_); cases u
  rw [Pipeline.launchCredit_owing, Finsupp.single_eq_same, Finset.sum_congr rfl fun d _ => owed_bar d c, Finset.sum_add_distrib,
    Finset.sum_ite_eq' Finset.univ (zp c) fun _ => 1, Finset.sum_ite_eq' Finset.univ (xp c) fun _ => 1, if_pos (Finset.mem_univ _), if_pos (Finset.mem_univ _)]
theorem credit_xr (c : Dev nD) (j : Fin 16) :
    tallyOn (xrCell c j) (launchCredit (Pipeline.owing O₀) 0 (xrCell c j)) = (tallyAt (xrCell c j) () NX : CellTallies nD τ sig Unit) := by
  unfold tallyAt; refine congrArg _ (Finsupp.ext fun u => ?_); cases u
  rw [Pipeline.launchCredit_owing, Finsupp.single_eq_same, Finset.sum_congr rfl fun d _ => owed_xr d c j,
    Finset.sum_ite_eq' Finset.univ (xp c) fun _ => NX, if_pos (Finset.mem_univ _)]
theorem credit_zr (c : Dev nD) (g : Fin 8) :
    tallyOn (zrCell c g) (launchCredit (Pipeline.owing O₀) 0 (zrCell c g)) = (tallyAt (zrCell c g) () NZ : CellTallies nD τ sig Unit) := by
  unfold tallyAt; refine congrArg _ (Finsupp.ext fun u => ?_); cases u
  rw [Pipeline.launchCredit_owing, Finsupp.single_eq_same, Finset.sum_congr rfl fun d _ => owed_zr d c g,
    Finset.sum_ite_eq' Finset.univ (zp c) fun _ => NZ, if_pos (Finset.mem_univ _)]

/-- The cells that the other devices owe. -/
abbrev dueSem : Unit ⊕ (Fin 16 ⊕ Fin 8) → SemLoc sig
  | .inl _ => .reg barS
  | .inr (.inl j) => .dma (xrS j)
  | .inr (.inr g) => .dma (zrS g)
theorem dueSem_inj : Function.Injective dueSem := by decide

theorem creds (c : Dev nD) : (Pipeline.launchCred O₀ c : sProp 𝕄)
    ⊢ iprop(cred (tallyAt (barCell c) () 2) ∗ (bigSep Finset.univ fun j : Fin 16 => cred (tallyAt (xrCell c j) () NX))
      ∗ bigSep Finset.univ fun g : Fin 8 => cred (tallyAt (zrCell c g) () NZ)) := by
  unfold Pipeline.launchCred
  refine (bigSep_subset (Finset.subset_univ (Finset.univ.map ⟨dueSem, dueSem_inj⟩))).trans ?_
  rw [bigSep_map, bigSep_univ_sum, bigSep_univ_sum, show (Finset.univ : Finset Unit) = {()} from rfl, bigSep_singleton]
  refine (show (_ : sProp 𝕄) ⊢ _ from Entails.of_eq ?_)
  exact congrArg₂ (fun X Y : sProp 𝕄 => iprop(X ∗ Y)) (congrArg cred (credit_bar c))
    (congrArg₂ (fun X Y : sProp 𝕄 => iprop(X ∗ Y)) (bigSep_congr fun j _ => congrArg cred (credit_xr c j)) (bigSep_congr fun g _ => congrArg cred (credit_zr c g)))

/-! ## The deal -/

variable (m : (ℓ : Loc nD τ sig) → Buf (Elt F) ℓ) (ρ : Dev nD → PrngReg)

/-- The launch's ghost state: the pipeline's staging cells, and the kernel's own cells with all their tokens. -/
def u₀ : UU :=
  (initOf (Pipeline.cells (Pipeline.pin (pcfgs (F := F)) adm) cellOf_inj) (Pipeline.launchToks (Pipeline.pin (pcfgs (F := F)) adm) cellOf_inj),
    launchOf barCells ownCells allToks)

/-- A resource that one device holds for all until the deal. -/
def heldBy (c₀ : Dev nD) (X : sProp 𝕄) (c : Dev nD) : sProp 𝕄 := if c = c₀ then X else iprop(emp)
theorem bigSep_heldBy (c₀ : Dev nD) (X : sProp 𝕄) : bigSep Finset.univ (heldBy c₀ X) = X := by
  rw [bigSep_univ_at _ c₀, bigSep_congr (s := Finset.univ.erase c₀) (Ψ := fun _ => (BI.emp : sProp 𝕄))
      fun c hc => by unfold heldBy; rw [if_neg (Finset.ne_of_mem_erase hc)]; rfl, BI.bigSep_emp_const]
  unfold heldBy; rw [if_pos rfl]
  exact BI.equiv_iff.mp sep_emp
def G : Dev nD → sProp 𝕄 := heldBy 0 (BI.own (ER (launchOf barCells ownCells allToks)))

theorem unscopedSems0_eq (c : Dev nD) : (unscopedSems0 c : sProp 𝕄) = semVal (barCell c) 0 := by
  unfold unscopedSems0
  rw [show (Finset.univ.filter fun sm : SemLoc sig => ¬ sm.isScoped .tc) = {.reg barS} from by decide, bigSep_singleton]

/-- What stays with a device of the deal of the cells. -/
def cellsOf (c : Dev nD) : sProp 𝕄 :=
  iprop(atPos ER (barCell c) 0 ∅ 0 ∗ (bigSep Finset.univ fun k : KI => openTok ER (kcell (c, some k))) ∗ pays c)
/-- What it holds from the start. -/
def startOf (c : Dev nD) : sProp 𝕄 :=
  iprop(StableHlo.held (c : Thread nD τ) (Pipeline.ucRefs τ sig) (V0 m c)
    ∗ (cred (tallyAt (barCell c) () 2) ∗ (bigSep Finset.univ fun j : Fin 16 => cred (tallyAt (xrCell c j) () NX))
      ∗ bigSep Finset.univ fun g : Fin 8 => cred (tallyAt (zrCell c g) () NZ))
    ∗ owes (c : Thread nD τ) (O₀ c) ∅)

abbrev T₀ (c : Dev nD) : sProp 𝕄 :=
  iprop(StableHlo.held (c : Thread nD τ) (Pipeline.ucRefs τ sig) (V0 m c) ∗ Dealt (V1 m) c ∗ ∃ W, owes (c : Thread nD τ) (O₀ c) W)

/-- What every device may consult. -/
def shared (κ : Dev nD × Option KI → ℕ) : sProp 𝕄 :=
  iprop(recs (bA (V1 m)) (bW (V1 m)) κ ∗ bigSep Finset.univ fun c : Dev nD => reached ER (barCell c) 0)
instance shared_persistent (κ : Dev nD × Option KI → ℕ) : BI.Persistent (shared m κ) := by unfold shared; infer_instance

theorem reached_at (c : Dev nD) : (bigSep Finset.univ fun c : Dev nD => (reached ER (barCell c) 0 : sProp 𝕄)) ⊢ reached ER (barCell c) 0 :=
  bigSep_elim (Finset.mem_univ c)

theorem rows_tok (c : Dev nD) :
    iprop((bigSep Finset.univ fun j : Fin 16 => dutyTok ER (xsCell c j) 0 true) ∗ (bigSep Finset.univ fun j : Fin 16 => dutyTok ER (xrCell (xp c) j) 0 true)
      ∗ bigSep Finset.univ fun j : Fin 16 => cred (tallyAt (xrCell c j) () NX)) ⊢ (bigSep Finset.univ fun j => xTok c j : sProp 𝕄) := by
  unfold xTok
  rw [bigSep_sep', bigSep_sep']
theorem groups_tok (c : Dev nD) :
    iprop((bigSep Finset.univ fun g : Fin 8 => dutyTok ER (zsCell c g) 0 true) ∗ (bigSep Finset.univ fun g : Fin 8 => dutyTok ER (zrCell (zp c) g) 0 true)
      ∗ bigSep Finset.univ fun g : Fin 8 => cred (tallyAt (zrCell c g) () NZ)) ⊢ (bigSep Finset.univ fun g => zTok c g : sProp 𝕄) := by
  unfold zTok
  rw [bigSep_sep', bigSep_sep']

theorem deal (κ : Dev nD × Option KI → ℕ) (c : Dev nD) : iprop(shared m κ ∗ (cellsOf c ∗ startOf m c)) ⊢ T₀ m c := by
  unfold shared cellsOf startOf T₀ Dealt barTok pays
  iintro ⟨⟨#HI, #HR⟩, ⟨Hat, Hop, Hbx, Hbz, Hxs, Hxr, Hzs, Hzr⟩, Hh, ⟨Hc, Hcx, Hcz⟩, HO⟩
  isplitl [Hh]; · iexact Hh
  isplitr [HO]
  · isplitr; · iexists κ; iexact HI
    isplitl [Hbx Hbz Hat Hc]
    · isplitl [Hbx]; · iexact Hbx
      isplitl [Hbz]; · iexact Hbz
      isplitr; · iapply (reached_at (F := F) (xp c)); iexact HR
      isplitr; · iapply (reached_at (F := F) (zp c)); iexact HR
      isplitl [Hat] <;> iassumption
    isplitl [Hop]; · iexact Hop
    isplitl [Hxs Hxr Hcx]
    · iapply (rows_tok (F := F) c)
      isplitl [Hxs]; · iexact Hxs
      isplitl [Hxr] <;> iassumption
    · iapply (groups_tok (F := F) c)
      isplitl [Hzs]; · iexact Hzs
      isplitl [Hzr] <;> iassumption
  · iexists ∅; iexact HO

theorem core_split (c : Dev nD) : iprop(unscopedBufs c (fun b => m ((c : Thread nD τ).loc b)) ∗ unscopedSems0 c
      ∗ owes (c : Thread nD τ) (O₀ c) ∅ ∗ Pipeline.launchCred O₀ c ∗ prngReg c (ρ c) ∗ G c)
    ⊢ (iprop(startOf m c ∗ (semVal (barCell c) 0 ∗ G c)) : sProp 𝕄) := by
  rw [show unscopedBufs c (fun b => m ((c : Thread nD τ).loc b)) = StableHlo.held (c : Thread nD τ) (Pipeline.ucRefs τ sig) (V0 m c) from
      Pipeline.unscopedBufs_held c (V0 m c), unscopedSems0_eq]
  unfold startOf
  iintro ⟨Hh, Hus, HO, Hcr, Hp, HG⟩
  ihave Hc := (creds (F := F) c) $$ Hcr
  isplitl [Hh Hc HO]
  · isplitl [Hh]; · iexact Hh
    isplitl [Hc] <;> iassumption
  isplitl [Hus] <;> iassumption

theorem recs_all (κ : GSem nD τ sig → ℕ) :
    (bigSep (barCells ∪ ownCells) fun g => (cellInv ER (sched (bA (V1 m)) (bW (V1 m))) (κ g) g : sProp 𝕄)) ⊢ recs (bA (V1 m)) (bW (V1 m)) fun ck => κ (kcell ck) := by
  refine (bigSep_subset all_sub).trans ?_
  rw [bigSep_map]
  exact (show (_ : sProp 𝕄) ⊢ _ from Entails.of_eq rfl)

theorem fam_join {Φ Ψ : Dev nD → sProp 𝕄} :
    iprop(bigSep Finset.univ Φ ∗ bigSep Finset.univ Ψ) ⊢ bigSep Finset.univ (fun c => iprop(Φ c ∗ Ψ c)) := Entails.of_eq (bigSep_sep' _ _ _).symm
theorem fam_split {Φ Ψ : Dev nD → sProp 𝕄} :
    bigSep Finset.univ (fun c => iprop(Φ c ∗ Ψ c)) ⊢ iprop(bigSep Finset.univ Φ ∗ bigSep Finset.univ Ψ) := Entails.of_eq (bigSep_sep' _ _ _)

theorem deal_all :
    iprop((bigSep Finset.univ fun c : Dev nD => iprop(unscopedBufs c (fun b => m ((c : Thread nD τ).loc b)) ∗ unscopedSems0 c
          ∗ owes (c : Thread nD τ) (O₀ c) ∅ ∗ Pipeline.launchCred O₀ c ∗ prngReg c (ρ c) ∗ G c)) ∗ levAts L lv)
      ⊢ (|={Set.univ}=> bigSep Finset.univ (T₀ m) : sProp 𝕄) := by
  have hv : bigSep Finset.univ (fun c : Dev nD => (semVal (barCell c) 0 : sProp 𝕄)) ⊢ bigSep barCells (fun g => (semVal g 0 : sProp 𝕄)) :=
    Entails.of_eq (bigSep_map (s := Finset.univ) barEmb (Φ := fun g : GSem nD τ sig => (semVal g 0 : sProp 𝕄))).symm
  have hat : bigSep barCells (fun g => (atPos ER g 0 ∅ 0 : sProp 𝕄)) ⊢ bigSep Finset.univ (fun c : Dev nD => (atPos ER (barCell c) 0 ∅ 0 : sProp 𝕄)) :=
    Entails.of_eq (bigSep_map (s := Finset.univ) barEmb (Φ := fun g : GSem nD τ sig => (atPos ER g 0 ∅ 0 : sProp 𝕄)))
  have hre : bigSep barCells (fun g => (reached ER g 0 : sProp 𝕄)) ⊢ bigSep Finset.univ (fun c : Dev nD => (reached ER (barCell c) 0 : sProp 𝕄)) :=
    Entails.of_eq (bigSep_map (s := Finset.univ) barEmb (Φ := fun g : GSem nD τ sig => (reached ER g 0 : sProp 𝕄)))
  have hopen : bigSep ownCells (fun g => (openTok ER g : sProp 𝕄))
      ⊢ bigSep Finset.univ (fun c : Dev nD => (bigSep Finset.univ fun k : KI => openTok ER (kcell (c, some k)) : sProp 𝕄)) :=
    Entails.of_eq (by rw [bigSep_map, bigSep_univ_prod]; rfl)
  iintro ⟨H, -⟩
  ihave H' := (show (bigSep Finset.univ fun c : Dev nD => iprop(unscopedBufs c (fun b => m ((c : Thread nD τ).loc b)) ∗ unscopedSems0 c
          ∗ owes (c : Thread nD τ) (O₀ c) ∅ ∗ Pipeline.launchCred O₀ c ∗ prngReg c (ρ c) ∗ G c))
      ⊢ (bigSep Finset.univ fun c : Dev nD => iprop(startOf m c ∗ (semVal (barCell c) 0 ∗ G c)) : sProp 𝕄) from bigSep_mono fun c _ => core_split m ρ c) $$ H
  ihave H2 := fam_split $$ H'; icases H2 with ⟨HB, H3⟩
  ihave H4 := fam_split $$ H3; icases H4 with ⟨Hv, HG⟩
  ihave Hu := (show bigSep Finset.univ (G (F := F)) ⊢ BI.own (ER (launchOf barCells ownCells allToks)) from
    Entails.of_eq (bigSep_heldBy (F := F) 0 (BI.own (ER (launchOf barCells ownCells allToks))))) $$ HG
  imod (Rounds.fund_launch ER (sched (bA (V1 m)) (bW (V1 m))) cells_disjoint (fun g _ h => h) allToks) $$ [Hv Hu] with ⟨%κ, -, #Hinv, #Hr, Hat, Hopen, Htok⟩
  · isplitl [Hv]
    · iapply hv $$ Hv
    · iexact Hu
  imodintro
  iapply (bigSep_with_persistent (R := shared m fun ck => κ (kcell ck)) (Φ := fun c => iprop(cellsOf c ∗ startOf m c)) fun c _ => deal m _ c)
  isplitr
  · unfold shared
    isplitr; · iapply (recs_all m κ); iexact Hinv
    iapply hre; iexact Hr
  iapply fam_join
  isplitr [HB]
  · unfold cellsOf
    iapply fam_join; isplitl [Hat]; · iapply hat $$ Hat
    iapply fam_join; isplitl [Hopen]; · iapply hopen $$ Hopen
    iapply (Entails.of_eq (toks_around (F := F)))
    iapply (Entails.of_eq (toks_eq (F := F))) $$ Htok
  · iexact HB

/-! ## The run of the program -/

/-- The host state after each of the stretches behind the kernel, at the contents γ that the kernel leaves. -/
def W1 (c : Dev nD) (γ : Outs0 (V1 m) c) : Valuation τ sig (Elt F) := StableHlo.after hostOps1 (after0 (V1 m) c γ)
def W2 (c : Dev nD) (γ : Outs0 (V1 m) c) : Valuation τ sig (Elt F) := StableHlo.after hostOps1_1 (W1 m c γ)
def W3 (c : Dev nD) (γ : Outs0 (V1 m) c) : Valuation τ sig (Elt F) := StableHlo.after hostOps1_2 (W2 m c γ)
def W4 (c : Dev nD) (γ : Outs0 (V1 m) c) : Valuation τ sig (Elt F) := StableHlo.after hostOps1_3 (W3 m c γ)
def W5 (c : Dev nD) (γ : Outs0 (V1 m) c) : Valuation τ sig (Elt F) := StableHlo.after hostOps1_4 (W4 m c γ)

abbrev R₁ (c : Dev nD) : sProp 𝕄 := iprop(semVal (barCell c) 0 ∗ ∃ W, owes (c : Thread nD τ) (0 : CellTallies nD τ sig Unit) W)

def hostAfter (ops : List (HloOp τ sig (Elt F))) (hS : ∀ op ∈ ops, op.bufs ⊆ Pipeline.ucRefs τ sig) (hf : ∀ op ∈ ops, op.fresh = ∅)
    (W : (c : Dev nD) → Outs0 (V1 m) c → Valuation τ sig (Elt F)) :
    Pipeline.HostSeg (Name := ℕ) (U := UU) (pcfgs (F := F)) (defs₀ (F := F)) 𝒱₀ L lv :=
  Pipeline.HostSeg.ofOpsEx (Γ := Outs0 (V1 m)) (pcfgs (F := F)) defs₀ 𝒱₀ L lv (Pipeline.ucRefs τ sig) ops hS hf W R₁

set_option backward.isDefEq.respectTransparency.types false in
def parts (c : Dev nD) : List (Pipeline.RDat.Seg (pcfgs (F := F)) adm (rdats (V1 m)) () (defs₀ (F := F)) 𝒱₀ L lv) :=
  [.host (Pipeline.HostSeg.ofOps (pcfgs (F := F)) defs₀ 𝒱₀ L lv (Pipeline.ucRefs τ sig) (hostOps0 c)
      (fun op h => Pipeline.sub_ucRefs op ((List.forall_iff_forall_mem.mp (hostOps0_sub c)) op h))
      (fun op h => (List.forall_iff_forall_mem.mp (hostOps0_fresh c)) op h)
      (V0 m) fun c => iprop(Dealt (V1 m) c ∗ ∃ W, owes (c : Thread nD τ) (O₀ c) W)),
    .region (reg (V1 m)),
    .host (hostAfter m hostOps1 (fun op h => Pipeline.sub_ucRefs op ((List.forall_iff_forall_mem.mp hostOps1_sub) op h))
      (fun op h => (List.forall_iff_forall_mem.mp hostOps1_fresh) op h) (after0 (V1 m))),
    .host (hostAfter m hostOps1_1 (fun op h => Pipeline.sub_ucRefs op ((List.forall_iff_forall_mem.mp hostOps1_1_sub) op h))
      (fun op h => (List.forall_iff_forall_mem.mp hostOps1_1_fresh) op h) (W1 m)),
    .host (hostAfter m hostOps1_2 (fun op h => Pipeline.sub_ucRefs op ((List.forall_iff_forall_mem.mp hostOps1_2_sub) op h))
      (fun op h => (List.forall_iff_forall_mem.mp hostOps1_2_fresh) op h) (W2 m)),
    .host (hostAfter m hostOps1_3 (fun op h => Pipeline.sub_ucRefs op ((List.forall_iff_forall_mem.mp hostOps1_3_sub) op h))
      (fun op h => (List.forall_iff_forall_mem.mp hostOps1_3_fresh) op h) (W3 m)),
    .host (hostAfter m hostOps1_4 (fun op h => Pipeline.sub_ucRefs op ((List.forall_iff_forall_mem.mp hostOps1_4_sub) op h))
      (fun op h => (List.forall_iff_forall_mem.mp hostOps1_4_fresh) op h) (W4 m))]

theorem unscoped_eq : ∀ sm : SemLoc sig, sm.isScoped .tc = false → sm = .reg barS := by decide

set_option backward.isDefEq.respectTransparency.types false in
/-- From any memory with zero counters every weakly fair run of the program ends; at the end every counter is zero and
    every buffer holds what the host code makes of some contents that the kernel may leave. -/
theorem run_all : θ_run defs (onTc (τ := τ) (main (F := F))) ⟨m, fun _ => 0, ρ⟩ (fun r =>
    (∀ c : Dev nD, ∃ γ : Outs0 (V1 m) c, ∀ b ∈ Pipeline.ucRefs τ sig, r.2.mem (c, b) = W5 m c γ b) ∧ r.2.sem = fun _ => 0) :=
  Pipeline.RDat.θ_run_regions_kit_dev_sems (pcfgs (F := F)) adm (rdats (V1 m)) () cellOf_inj EP defs₀ 𝒱₀ L lv m ρ main (parts m)
    (fun c Q => by
      rewrite [main_chain c, Pipeline.RDat.Seg.run_eq_chain,
        show (parts m c).map Pipeline.RDat.Seg.prog = [
          StableHlo.seq (hostOps0 c),
          Prog.lift (.customCall (Pipeline.entry 0) ()),
          StableHlo.seq hostOps1,
          StableHlo.seq hostOps1_1,
          StableHlo.seq hostOps1_2,
          StableHlo.seq hostOps1_3,
          StableHlo.seq hostOps1_4 ] from rfl]
      dsimp (config := { failIfUnchanged := false }) only
      exact .rfl)
    (fun c => by
      simp only [parts, Pipeline.RDat.Seg.pipes_host, Pipeline.RDat.Seg.pipes_region, Pipeline.RDat.Seg.pipes_nil]; decide)
    O₀ (hL := L_of_ne) (G := G) (u₀ := u₀)
    (hu₀ := by
      unfold u₀ G
      iintro Hu
      ihave H := (ownU_pair _ _) $$ Hu
      icases H with ⟨HP, HX⟩
      imodintro
      isplitl [HP]; · iexact HP
      rw [bigSep_heldBy]; iexact HX)
    (T₀ := T₀ m)
    (Tₙ := fun c => iprop((∃ γ : Outs0 (V1 m) c, StableHlo.held (c : Thread nD τ) (Pipeline.ucRefs τ sig) (W5 m c γ)) ∗ semVal (barCell c) 0))
    (hch := fun c => ⟨.rfl, .rfl, .rfl, .rfl, .rfl, .rfl, .rfl, by
      show iprop((∃ γ : Outs0 (V1 m) c, StableHlo.held (c : Thread nD τ) (Pipeline.ucRefs τ sig) (W5 m c γ))
          ∗ (semVal (barCell c) 0 ∗ ∃ W, owes (c : Thread nD τ) (0 : CellTallies nD τ sig Unit) W)) ⊢ _
      iintro ⟨Hh, Hb, HO⟩
      isplitr [HO]
      · isplitl [Hh] <;> iassumption
      · iexact HO⟩)
    (hinit := deal_all m ρ)
    (QY := fun c s => (∃ γ : Outs0 (V1 m) c, ∀ b ∈ Pipeline.ucRefs τ sig, s.mem (c, b) = W5 m c γ b) ∧ s.sem (barCell c) = 0)
    (hfin := fun c s' => by
      unfold StableHlo.held
      iintro ⟨⟨⟨%γ, Hh⟩, Hb⟩, HSI⟩
      icombine HSI Hb gives %hb
      ihave Hr := (pointsTo_read_all (Pipeline.ucRefs τ sig) (fun b => ((c : Thread nD τ).1, b)) (W5 m c γ) s') $$ [Hh HSI]
      · isplitl [Hh] <;> iassumption
      icases Hr with ⟨%h, HSI⟩
      imodintro
      isplitr
      · ipureintro
        exact ⟨⟨γ, h⟩, by simpa using hb⟩
      · iexact HSI)
    (hQ := fun s h hs => ⟨fun c => (h c).1, sem_eq_zero hs fun c sm hsm => by
        obtain rfl := unscoped_eq sm hsm
        exact (h c).2⟩)

end Cert.MeshProof
end
-- ==== Proof.Frames.lean ====
/-
The frames.

No line of the host code and no copy writes an argument, so the run leaves the arguments as they were; it leaves every counter at zero.
-/
module

public import proofs.«01_k».proof.Proof.Launch
public import proofs.«01_k».proof.Defs
public import proofs.«01_k».proof.Proof.Gen.Kernel
public import proofs.«01_k».proof.Proof.Gen.ReferenceIdeal.Run

@[expose] public section

noncomputable section

namespace Cert.MeshProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx (ix2 ix3 eq_ix2 eq_ix3)

variable {F : FTy → Type} [FloatOps F]

local notation "𝕄" => MT nD τ sig Unit (Elt F) ℕ UU ℕ

variable (m : (ℓ : Loc nD τ sig) → Buf (Elt F) ℓ) (ρ : Dev nD → PrngReg)

/-- What no stretch writes stays as it was. -/
theorem W5_of (c : Dev nD) (γ : Outs0 (V1 m) c) (r : Ref sig .tc) (h0 : r ∉ hostOps0_W) (hr : r ≠ main_v30) (h1 : r ∉ hostOps1_W) (h2 : r ∉ hostOps1_1_W)
    (h3 : r ∉ hostOps1_2_W) (h4 : r ∉ hostOps1_3_W) (h5 : r ∉ hostOps1_4_W) : W5 m c γ (Proc.devRef .tc r) = m ((c : Thread nD τ).loc r) :=
  (StableHlo.after_of_writes_sub hostOps1_4 _ hostOps1_4_writes h5).trans <|
  (StableHlo.after_of_writes_sub hostOps1_3 _ hostOps1_3_writes h4).trans <|
  (StableHlo.after_of_writes_sub hostOps1_2 _ hostOps1_2_writes h3).trans <|
  (StableHlo.after_of_writes_sub hostOps1_1 _ hostOps1_1_writes h2).trans <|
  (StableHlo.after_of_writes_sub hostOps1 _ hostOps1_writes h1).trans <|
  (Function.update_of_ne (StableHlo.devRef_ne_of_ne hr : (Proc.devRef .tc r : DevRef τ sig) ≠ Proc.devRef .tc main_v30) _ _).trans <|
  (StableHlo.after_of_writes_sub (hostOps0 c) _ (hostOps0_writes c) h0)

theorem W5_arg0 (c : Dev nD) (γ : Outs0 (V1 m) c) : W5 m c γ (Proc.devRef .tc main_arg0) = m ((c : Thread nD τ).loc main_arg0) :=
  W5_of m c γ main_arg0 (by decide) (by decide) (by decide) (by decide) (by decide) (by decide) (by decide)
theorem W5_arg1 (c : Dev nD) (γ : Outs0 (V1 m) c) : W5 m c γ (Proc.devRef .tc main_arg1) = m ((c : Thread nD τ).loc main_arg1) :=
  W5_of m c γ main_arg1 (by decide) (by decide) (by decide) (by decide) (by decide) (by decide) (by decide)

/-- The run, read at the arguments and at the result. -/
theorem run_main : θ_run defs (onTc (τ := τ) (main (F := F))) ⟨m, fun _ => 0, ρ⟩ (fun r =>
    (∀ c : Dev nD, (∃ γ : Outs0 (V1 m) c, r.2.mem ((c : Thread nD τ).loc main_v36) = W5 m c γ (Proc.devRef .tc main_v36))
      ∧ r.2.mem ((c : Thread nD τ).loc main_arg0) = m ((c : Thread nD τ).loc main_arg0)
      ∧ r.2.mem ((c : Thread nD τ).loc main_arg1) = m ((c : Thread nD τ).loc main_arg1)) ∧ r.2.sem = fun _ => 0) :=
  (θ_run defs _ _).mono (fun _ h => ⟨fun c => by
    obtain ⟨γ, hγ⟩ := h.1 c
    exact ⟨⟨γ, hγ (Proc.devRef .tc main_v36) (Finset.mem_filter.mpr ⟨StableHlo.devRef_mem_tcRefs main_v36, by decide⟩)⟩,
      (hγ (Proc.devRef .tc main_arg0) (Finset.mem_filter.mpr ⟨StableHlo.devRef_mem_tcRefs main_arg0, by decide⟩)).trans (W5_arg0 m c γ),
      (hγ (Proc.devRef .tc main_arg1) (Finset.mem_filter.mpr ⟨StableHlo.devRef_mem_tcRefs main_arg1, by decide⟩)).trans (W5_arg1 m c γ)⟩, h.2⟩) (run_all m ρ)

theorem run_args : θ_run defs (onTc (τ := τ) (main (F := F))) ⟨m, fun _ => 0, ρ⟩ (fun r =>
    (∀ c : Dev nD, r.2.mem ((c.tc : Thread nD τ).loc main_arg0) = m ((c.tc : Thread nD τ).loc main_arg0)
      ∧ r.2.mem ((c.tc : Thread nD τ).loc main_arg1) = m ((c.tc : Thread nD τ).loc main_arg1)) ∧ r.2.sem = fun _ => 0) :=
  (θ_run defs _ _).mono (fun _ h => ⟨fun c => (h.1 c).2, h.2⟩) (run_main m ρ)

/-! The kernel as printed and its idealization are the same text, so the run of the one is the run of the other. -/

set_option maxHeartbeats 1000000 in
theorem same_body : Cert.Kernel.cc0_body (F := F) = Cert.KernelIdeal.cc0_body (F := F) := by
  unfold Cert.Kernel.cc0_body Cert.KernelIdeal.cc0_body
  rfl
set_option maxHeartbeats 1000000 in
theorem same_table : Cert.Kernel.defs₀ (F := F) = Cert.KernelIdeal.defs₀ (F := F) := by
  unfold Cert.Kernel.defs₀ Cert.KernelIdeal.defs₀
  rw [same_body]
  refine congrArg Defs.onTc (funext fun ℓ => funext fun a => ?_)
  rcases ℓ with ⟨n, hn⟩
  cases n with
  | zero => obtain ⟨t, s⟩ := a; rfl
  | succ n => exact absurd hn (Nat.not_lt.2 (Nat.le_add_left _ _))
theorem same_defs : Cert.Kernel.defs (F := F) = Cert.KernelIdeal.defs (F := F) := by
  unfold Cert.Kernel.defs Cert.KernelIdeal.defs
  rw [same_table]
  rfl
set_option maxHeartbeats 1000000 in
theorem same_main : Cert.Kernel.main (F := F) = Cert.KernelIdeal.main (F := F) := rfl

theorem frame_kernel : Cert.quiescent_Kernel := fun m ρ _ => by
  rw [same_defs, same_main]
  exact run_args (F := Bits) m ρ
theorem frame_ideal : Cert.quiescent_KernelIdeal := fun m ρ _ => run_args (F := Ideal) m ρ
theorem frame_reference : Cert.quiescent_ReferenceIdeal := fun m ρ _ =>
  (θ_run Cert.ReferenceIdeal.defs _ _).mono (fun r h => ⟨fun c => (h c).2, Idealize.ShloMosaic.sem_eq_zero_of_no_sems (by decide) r.2⟩)
    (Cert.ReferenceIdeal.Value.run (F := Ideal) m ρ)

end Cert.MeshProof
end
-- ==== Proof.Exact.lean ====
/-
What the kernel computes from its blocks, over the extended reals.
-/
module

public import proofs.«01_k».proof.Proof.Frames
public import Idealize.ShloMosaic.Lib.Pointwise

@[expose] public section

noncomputable section

namespace Cert.MeshProof

open Cert.KernelIdeal Cert.KernelIdeal.Gen

open Idealize.ShloMosaic
open Idealize.ShloMosaic.TcCoe
open Idealize.SL.Sem

/-! ## What the kernel computes from its blocks, read exactly -/

set_option maxRecDepth 16384

theorem pay1_apply (A : Vec Ideal S1x1024x4096 .bf16) (W : Vec Ideal S4096x256 .bf16) (r : Fin 1024) (q : Fin 256) :
    k0_pay1 A W (ix3 0 r q) = ∑ k : Fin 4096, A (ix3 0 r k) * W (ix2 k q) := by
  pointwise [k0_pay1]

theorem pay4_apply (A : Vec Ideal S1x1024x4096 .bf16) (W : Vec Ideal S4096x256 .bf16) (R : Vec Ideal S1x1024x256 .bf16) (r : Fin 1024) (q : Fin 256) :
    k0_pay4 A W R (ix2 r q) = (∑ k : Fin 4096, A (ix3 0 r k) * W (ix2 k q)) + R (ix3 0 r q) := by
  pointwise [k0_pay4]

theorem pay5_apply (A : Vec Ideal S1x1024x4096 .bf16) (W : Vec Ideal S4096x256 .bf16) (R : Vec Ideal S1x1024x256 .bf16) (r : Fin 1024) (q : Fin 256) :
    k0_pay5 A W R (ix3 0 r q) = (∑ k : Fin 4096, A (ix3 0 r k) * W (ix2 k q)) + R (ix3 0 r q) := by
  pointwise [k0_pay5, k0_pay4]

theorem pay6_apply (A : Vec Ideal S1x1024x4096 .bf16) (W : Vec Ideal S4096x256 .bf16) (R : Vec Ideal S1x1024x256 .bf16) (r : Fin 1024) (q : Fin 256) :
    k0_pay6 A W R (ix2 r q) = (∑ k : Fin 4096, A (ix3 0 r k) * W (ix2 k q)) + R (ix3 0 r q) := by
  pointwise [k0_pay6, k0_pay4]

theorem pay3_apply (X : Vec Ideal S1024x256 .bf16) (r : Fin 1024) (q : Fin 256) : k0_pay3 X (ix3 0 r q) = X (ix2 r q) := by
  pointwise [k0_pay3]

end Cert.MeshProof
end
-- ==== Proof.HostTail.lean ====
/-
What the host code makes of the kernel's output: a device takes the plane of the second sweep and the plane of the
third, in the order of its z coordinate, and lays them side by side.
-/
module

public import proofs.«01_k».proof.Proof.Frames
public import Idealize.ShloMosaic.Lib.Pointwise
public import Idealize.ShloMosaic.Lib.StableHlo.RunRead
public import Idealize.ShloMosaic.Lib.DynamicIndex

@[expose] public section

noncomputable section

namespace Cert.MeshProof

open Cert.KernelIdeal Cert.KernelIdeal.Gen

open Idealize.ShloMosaic
open Idealize.ShloMosaic.TcCoe
open Idealize.SL.Sem

variable (m : (ℓ : Loc nD τ sig) → Buf (Elt Ideal) ℓ)
set_option maxRecDepth 16384
set_option maxHeartbeats 1000000

/-- The z coordinate of a device, as the host code computes it. -/
def zword (c : Dev nD) : IVec S_ 32 := Host.remui (Host.divui (constantI S_ 32 (Dev.word c)) (constantI S_ 32 1#32)) (constantI S_ 32 2#32)

/-- It is computed before the kernel, -/
theorem V1_v9 (c : Dev nD) : V1 m c (Proc.devRef .tc main_v9) = zword c := by
  unfold V1 hostOps0
  after_reads_simp
  rfl

/-- and after it one is added: the plane of the left half of the columns. -/
theorem W1_v31 (c : Dev nD) (γ : Outs0 (V1 m) c) : W1 m c γ (Proc.devRef .tc main_v31) = addi (constantI S_ 32 1#32) (zword c) := by
  unfold W1 hostOps1
  after_reads_simp
  exact congrArg (addi (constantI S_ 32 1#32)) ((Function.update_of_ne (StableHlo.devRef_ne_of_ne (by decide : main_v9 ≠ main_v30)) _ _).trans (V1_v9 m c))

/-- The kernel's output, when the left half is cut out of it, -/
theorem W1_v30 (c : Dev nD) (γ : Outs0 (V1 m) c) : W1 m c γ (Proc.devRef .tc main_v30) = γ.1 :=
  (StableHlo.after_of_writes_sub hostOps1 _ hostOps1_writes (by decide)).trans (Function.update_self ..)

/-- and when the right half is. -/
theorem W3_v30 (c : Dev nD) (γ : Outs0 (V1 m) c) : W3 m c γ (Proc.devRef .tc main_v30) = γ.1 :=
  (StableHlo.after_of_writes_sub hostOps1_2 _ hostOps1_2_writes (by decide)).trans <|
  (StableHlo.after_of_writes_sub hostOps1_1 _ hostOps1_1_writes (by decide)).trans (W1_v30 m c γ)

/-- The z coordinate is still there after the left half is cut, -/
theorem W2_v9 (c : Dev nD) (γ : Outs0 (V1 m) c) : W2 m c γ (Proc.devRef .tc main_v9) = zword c :=
  (StableHlo.after_of_writes_sub hostOps1_1 _ hostOps1_1_writes (by decide)).trans <|
  (StableHlo.after_of_writes_sub hostOps1 _ hostOps1_writes (by decide)).trans <|
  (Function.update_of_ne (StableHlo.devRef_ne_of_ne (by decide : main_v9 ≠ main_v30)) _ _).trans (V1_v9 m c)

/-- and two minus it is the plane of the right half. -/
theorem W3_v33 (c : Dev nD) (γ : Outs0 (V1 m) c) : W3 m c γ (Proc.devRef .tc main_v33) = subi (constantI S_ 32 2#32) (zword c) := by
  unfold W3 hostOps1_2
  after_reads_simp
  exact congrArg (subi (constantI S_ 32 2#32)) (W2_v9 m c γ)

/-- A plane lies in the output; -/
theorem fits0 : S3x1024x4096.Slices (fun _ => 0) S1x1024x4096 := by decide

/-- the plane of the left half does, -/
theorem fitsL (c : Dev nD) : S3x1024x4096.Slices ![1 + c.val % 2, 0, 0] S1x1024x4096 := by revert c; decide

/-- and so does that of the right half. -/
theorem fitsR (c : Dev nD) : S3x1024x4096.Slices ![2 - c.val % 2, 0, 0] S1x1024x4096 := by revert c; decide

/-- The left half, -/
theorem W2_v32 (c : Dev nD) (γ : Outs0 (V1 m) c) : W2 m c γ (Proc.devRef .tc main_v32)
    = shapeCast S1024x4096 (extractStridedSlice S1x1024x4096 ![1 + c.val % 2, 0, 0] (γ.1 : Vec Ideal S3x1024x4096 .f32) (fitsL c)) shapeCasts_S1x1024x4096_S1024x4096 := by
  rw [← W1_v30 m c γ]
  unfold W2 hostOps1_1
  after_reads_simp
  refine congrArg (fun X : Vec Ideal S1x1024x4096 .f32 => shapeCast S1024x4096 X shapeCasts_S1x1024x4096_S1024x4096)
    (Host.dynamicSlice_eq_extractStridedSlice S1x1024x4096 (W1 m c γ (Proc.devRef .tc main_v30) : Vec Ideal S3x1024x4096 .f32) _ _ fits0 (fitsL c) fun a => ?_)
  fin_cases a
  · dsimp only [Matrix.cons_val, Fin.zero_eta, Fin.mk_one, Fin.reduceFinMk]
    after_reads_simp
    rw [W1_v31]
    clear γ; revert c; decide
  · dsimp only [Matrix.cons_val, Fin.zero_eta, Fin.mk_one, Fin.reduceFinMk]
    after_reads_simp
    rfl
  · dsimp only [Matrix.cons_val, Fin.zero_eta, Fin.mk_one, Fin.reduceFinMk]
    after_reads_simp
    rfl

/-- the right half, -/
theorem W4_v34 (c : Dev nD) (γ : Outs0 (V1 m) c) : W4 m c γ (Proc.devRef .tc main_v34)
    = shapeCast S1024x4096 (extractStridedSlice S1x1024x4096 ![2 - c.val % 2, 0, 0] (γ.1 : Vec Ideal S3x1024x4096 .f32) (fitsR c)) shapeCasts_S1x1024x4096_S1024x4096 := by
  rw [← W3_v30 m c γ]
  unfold W4 hostOps1_3
  after_reads_simp
  refine congrArg (fun X : Vec Ideal S1x1024x4096 .f32 => shapeCast S1024x4096 X shapeCasts_S1x1024x4096_S1024x4096)
    (Host.dynamicSlice_eq_extractStridedSlice S1x1024x4096 (W3 m c γ (Proc.devRef .tc main_v30) : Vec Ideal S3x1024x4096 .f32) _ _ fits0 (fitsR c) fun a => ?_)
  fin_cases a
  · dsimp only [Matrix.cons_val, Fin.zero_eta, Fin.mk_one, Fin.reduceFinMk]
    after_reads_simp
    rw [W3_v33]
    clear γ; revert c; decide
  · dsimp only [Matrix.cons_val, Fin.zero_eta, Fin.mk_one, Fin.reduceFinMk]
    after_reads_simp
    rfl
  · dsimp only [Matrix.cons_val, Fin.zero_eta, Fin.mk_one, Fin.reduceFinMk]
    after_reads_simp
    rfl

/-- and the left half again once the right one is cut. -/
theorem W4_v32 (c : Dev nD) (γ : Outs0 (V1 m) c) : W4 m c γ (Proc.devRef .tc main_v32) = W2 m c γ (Proc.devRef .tc main_v32) :=
  (StableHlo.after_of_writes_sub hostOps1_3 _ hostOps1_3_writes (by decide)).trans
  (StableHlo.after_of_writes_sub hostOps1_2 _ hostOps1_2_writes (by decide))

/-- Equal halves laid side by side are equal. -/
theorem pair2 {a b a' b' : Vec Ideal S1024x4096 .f32} (ha : a = a') (hb : b = b') (h : Shape.Concatenates [S1024x4096, S1024x4096] S1024x8192 1) :
    shapeCast S1x1024x8192 (concatenate S1024x8192 1 [⟨S1024x4096, a⟩, ⟨S1024x4096, b⟩] h) shapeCasts_S1024x8192_S1x1024x8192
      = shapeCast S1x1024x8192 (concatenate S1024x8192 1 [⟨S1024x4096, a'⟩, ⟨S1024x4096, b'⟩] h) shapeCasts_S1024x8192_S1x1024x8192 := by
  subst ha hb; rfl

/-- The result: the two halves side by side. -/
theorem W5_v36 (c : Dev nD) (γ : Outs0 (V1 m) c) : W5 m c γ (Proc.devRef .tc main_v36)
    = shapeCast S1x1024x8192 (concatenate S1024x8192 1
        [⟨S1024x4096, shapeCast S1024x4096 (extractStridedSlice S1x1024x4096 ![1 + c.val % 2, 0, 0] (γ.1 : Vec Ideal S3x1024x4096 .f32) (fitsL c)) shapeCasts_S1x1024x4096_S1024x4096⟩,
         ⟨S1024x4096, shapeCast S1024x4096 (extractStridedSlice S1x1024x4096 ![2 - c.val % 2, 0, 0] (γ.1 : Vec Ideal S3x1024x4096 .f32) (fitsR c)) shapeCasts_S1x1024x4096_S1024x4096⟩]
        concatenates_S1024x4096_S1024x4096_S1024x8192_d1) shapeCasts_S1024x8192_S1x1024x8192 := by
  rw [← W2_v32, ← W4_v34, ← W4_v32]
  unfold W5 hostOps1_4
  after_reads_simp
  refine pair2 ?_ ?_ _ <;> after_reads_simp

/-- The result at an index. -/
theorem result_apply (c : Dev nD) (γ : Outs0 (V1 m) c) (r : Fin 1024) (n : Fin 8192) : (W5 m c γ (Proc.devRef .tc main_v36) : Vec Ideal S1x1024x8192 .f32) (ix3 0 r n)
    = if h : n.val < 4096 then (γ.1 : Vec Ideal S3x1024x4096 .f32) (ix3 ⟨1 + c.val % 2, by omega⟩ r ⟨n.val, h⟩)
      else (γ.1 : Vec Ideal S3x1024x4096 .f32) (ix3 ⟨2 - c.val % 2, by omega⟩ r ⟨n.val - 4096, by omega⟩) := by
  rw [W5_v36]
  pointwise []

end Cert.MeshProof
end
-- ==== Proof.HostHead.lean ====
/-
What the host code hands to the kernel, over the extended reals: of the activations the rows of the x partner and
twice the device's own rows, of the weights the half of the columns that the z coordinate names. The row and column
offsets are computed by the host code from the device's number; here they are stated as numbers.
-/
module

public import proofs.«01_k».proof.Proof.Frames
public import Idealize.ShloMosaic.Lib.Pointwise
public import Idealize.ShloMosaic.Lib.StableHlo.RunRead
public import Idealize.ShloMosaic.Lib.DynamicIndex

@[expose] public section

noncomputable section

namespace Cert.MeshProof

open Cert.KernelIdeal Cert.KernelIdeal.Gen

open Idealize.ShloMosaic
open Idealize.ShloMosaic.TcCoe
open Idealize.SL.Sem

variable (m : (ℓ : Loc nD τ sig) → Buf (Elt Ideal) ℓ)
set_option maxRecDepth 16384
set_option maxHeartbeats 1000000

/-- The half of the columns lies in the weights, -/
theorem fits29 (c : Dev nD) : S4096x8192.Slices ![0, c.val % 2 * 4096] S4096x4096 := by revert c; decide

/-- the rows of the x partner lie in the activations, -/
theorem fits15 (c : Dev nD) : S2048x4096.Slices ![(1 - c.val / 4) * 1024, 0] S1024x4096 := by revert c; decide

/-- and so do the device's own. -/
theorem fits20 (c : Dev nD) : S2048x4096.Slices ![c.val / 4 * 1024, 0] S1024x4096 := by revert c; decide

/-- The weights that the kernel reads: the half of the columns at the device's z coordinate. -/
theorem V1_v29 (c : Dev nD) : V1 m c (Proc.devRef .tc main_v29)
    = extractStridedSlice S4096x4096 ![0, c.val % 2 * 4096] (m ((c : Thread nD τ).loc main_arg1)) (fits29 c) := by
  unfold V1 hostOps0
  after_reads_simp
  refine Host.dynamicSlice_eq_extractStridedSlice _ _ _ _ _ (fits29 c) fun a => ?_
  fin_cases a
  · dsimp only [Matrix.cons_val, Fin.zero_eta, Fin.mk_one]
    after_reads_simp
    rfl
  · dsimp only [Matrix.cons_val, Fin.zero_eta, Fin.mk_one]
    after_reads_simp
    revert c; decide

/-- Stacks of equal planes are equal. -/
theorem stack3 {a b d a' b' d' : Vec Ideal S1x1024x4096 .bf16} (ha : a = a') (hb : b = b') (hd : d = d')
    (h : Shape.Concatenates [S1x1024x4096, S1x1024x4096, S1x1024x4096] S3x1024x4096 0 ) :
    concatenate S3x1024x4096 0 [⟨S1x1024x4096, a⟩, ⟨S1x1024x4096, b⟩, ⟨S1x1024x4096, d⟩] h
      = concatenate S3x1024x4096 0 [⟨S1x1024x4096, a'⟩, ⟨S1x1024x4096, b'⟩, ⟨S1x1024x4096, d'⟩] h := by
  subst ha hb hd; rfl

/-- The device's activations as a matrix, heads and head positions merged. -/
def flat0 (c : Dev nD) : Vec Ideal S2048x4096 .bf16 := shapeCast S2048x4096 (m ((c : Thread nD τ).loc main_arg0)) shapeCasts_S1x2048x32x128_S2048x4096

/-- A matrix as a plane of the stack. -/
def slab (X : Vec Ideal S1024x4096 .bf16) : Vec Ideal S1x1024x4096 .bf16 := broadcastInDim S1x1024x4096 ![1, 2] bcast_S1024x4096_S1x1024x4096_1_2 X

/-- The rows of the x partner, -/
def peer0 (c : Dev nD) : Vec Ideal S1x1024x4096 .bf16 :=
  slab (extractStridedSlice S1024x4096 ![(1 - c.val / 4) * 1024, 0] (flat0 m c) (fits15 c))

/-- and the device's own rows. -/
def own0 (c : Dev nD) : Vec Ideal S1x1024x4096 .bf16 :=
  slab (extractStridedSlice S1024x4096 ![c.val / 4 * 1024, 0] (flat0 m c) (fits20 c))

/-- The activations that the kernel reads: three planes, one for each sweep. -/
theorem V1_v24 (c : Dev nD) : V1 m c (Proc.devRef .tc main_v24)
    = concatenate S3x1024x4096 0 [⟨S1x1024x4096, peer0 m c⟩, ⟨S1x1024x4096, own0 m c⟩, ⟨S1x1024x4096, own0 m c⟩] concatenates_S1x1024x4096_S1x1024x4096_S1x1024x4096_S3x1024x4096_d0 := by
  unfold V1 hostOps0
  after_reads_simp
  refine stack3 ?_ ?_ ?_ _
  · dsimp only [Matrix.cons_val, Fin.zero_eta, Fin.mk_one]
    after_reads_simp
    refine congrArg slab (Host.dynamicSlice_eq_extractStridedSlice _ _ _ _ _ (fits15 c) fun a => ?_)
    fin_cases a
    · dsimp only [Matrix.cons_val, Fin.zero_eta, Fin.mk_one]
      after_reads_simp
      revert c; decide
    · dsimp only [Matrix.cons_val, Fin.zero_eta, Fin.mk_one]
      after_reads_simp
      rfl
  · dsimp only [Matrix.cons_val, Fin.zero_eta, Fin.mk_one]
    after_reads_simp
    refine congrArg slab (Host.dynamicSlice_eq_extractStridedSlice _ _ _ _ _ (fits20 c) fun a => ?_)
    fin_cases a
    · dsimp only [Matrix.cons_val, Fin.zero_eta, Fin.mk_one]
      after_reads_simp
      revert c; decide
    · dsimp only [Matrix.cons_val, Fin.zero_eta, Fin.mk_one]
      after_reads_simp
      rfl
  · dsimp only [Matrix.cons_val, Fin.zero_eta, Fin.mk_one]
    after_reads_simp
    refine congrArg slab (Host.dynamicSlice_eq_extractStridedSlice _ _ _ _ _ (fits20 c) fun a => ?_)
    fin_cases a
    · dsimp only [Matrix.cons_val, Fin.zero_eta, Fin.mk_one]
      after_reads_simp
      revert c; decide
    · dsimp only [Matrix.cons_val, Fin.zero_eta, Fin.mk_one]
      after_reads_simp
      rfl

/-! ## The same, read at an index -/

/-- The weights that the kernel reads, at an index. -/
theorem v29_apply (c : Dev nD) (k q : Fin 4096) : (V1 m c (Proc.devRef .tc main_v29) : Vec Ideal S4096x4096 .bf16) (ix2 k q)
    = (m ((c : Thread nD τ).loc main_arg1) : Vec Ideal S4096x8192 .bf16) (ix2 k ⟨c.val % 2 * 4096 + q.val, by omega⟩) := by
  rw [V1_v29]
  pointwise []

/-- Merging heads and head positions, at an index; -/
theorem flat_apply (X : Vec Ideal S1x2048x32x128 .bf16) (r : Fin 2048) (k : Fin 4096) : shapeCast S2048x4096 X shapeCasts_S1x2048x32x128_S2048x4096 (ix2 r k)
    = X (ix4 0 r ⟨k.val / 128, by omega⟩ ⟨k.val % 128, by omega⟩) := by
  pointwise []

/-- for the device's activations. -/
theorem flat0_apply (c : Dev nD) (r : Fin 2048) (k : Fin 4096) : flat0 m c (ix2 r k)
    = (m ((c : Thread nD τ).loc main_arg0) : Vec Ideal S1x2048x32x128 .bf16) (ix4 0 r ⟨k.val / 128, by omega⟩ ⟨k.val % 128, by omega⟩) := by
  exact flat_apply _ r k

/-- The plane of the x partner's rows, at an index, -/
theorem peer0_apply (c : Dev nD) (r : Fin 1024) (k : Fin 4096) : peer0 m c (ix3 0 r k)
    = flat0 m c (ix2 ⟨(1 - c.val / 4) * 1024 + r.val, by omega⟩ k) := by
  unfold peer0 slab
  generalize flat0 m c = X
  pointwise []

/-- and the plane of the device's own. -/
theorem own0_apply (c : Dev nD) (r : Fin 1024) (k : Fin 4096) : own0 m c (ix3 0 r k)
    = flat0 m c (ix2 ⟨c.val / 4 * 1024 + r.val, by have : c.val < 8 := c.isLt; omega⟩ k) := by
  unfold own0 slab
  generalize flat0 m c = X
  pointwise []

/-- The plane of the first sweep is the partner's rows, -/
theorem v24_peer (c : Dev nD) (r : Fin 1024) (k : Fin 4096) : (V1 m c (Proc.devRef .tc main_v24) : Vec Ideal S3x1024x4096 .bf16) (ix3 0 r k)
    = peer0 m c (ix3 0 r k) := by
  rw [V1_v24]
  generalize own0 m c = X
  generalize peer0 m c = Y
  pointwise []

/-- that of the second the device's own. -/
theorem v24_own1 (c : Dev nD) (r : Fin 1024) (k : Fin 4096) : (V1 m c (Proc.devRef .tc main_v24) : Vec Ideal S3x1024x4096 .bf16) (ix3 1 r k)
    = own0 m c (ix3 0 r k) := by
  rw [V1_v24]
  generalize own0 m c = X
  generalize peer0 m c = Y
  pointwise []

end Cert.MeshProof
end
-- ==== Proof.Blocks.lean ====
/-
The blocks of the grid, by coordinates: step t = 16 m + j reads plane m of the activations and columns
256 j … 256 j + 255 of the weights, and writes those columns of plane m of the output.
-/
module

public import proofs.«01_k».proof.Proof.Frames
public import Idealize.ShloMosaic.Lib.Pointwise
public import Idealize.ShloMosaic.Lib.Pipeline.ValueKit
public import Idealize.ShloMosaic.Lib.Pipeline.ArrRel

@[expose] public section

noncomputable section

namespace Cert.MeshProof

open Cert.KernelIdeal Cert.KernelIdeal.Gen

open Idealize.ShloMosaic
open Idealize.ShloMosaic.TcCoe
open Idealize.SL.Sem

variable {F : FTy → Type} [FloatOps F] (V : Dev nD → Valuation τ sig (Elt F))

/-- The block of the activations at a step, -/
theorem index_0 (t : Fin 48) : (cfg0.win 0).index t 0 = t.val / 16 ∧ (cfg0.win 0).index t 1 = 0 ∧ (cfg0.win 0).index t 2 = 0 := by
  revert t; decide +kernel

/-- of the weights, -/
theorem index_1 (t : Fin 48) : (cfg0.win 1).index t 0 = 0 ∧ (cfg0.win 1).index t 1 = t.val % 16 := by
  revert t; decide +kernel

/-- and of the output. -/
theorem index_2 (t : Fin 48) : (cfg0.win 2).index t 0 = t.val / 16 ∧ (cfg0.win 2).index t 1 = 0 ∧ (cfg0.win 2).index t 2 = t.val % 16 := by
  revert t; decide +kernel

/-- A block of the activations at an index, -/
theorem bA_apply (c : Dev nD) (t : Fin 48) (r : Fin 1024) (k : Fin 4096) :
    bA V c t (ix3 0 r k) = (V c (Proc.devRef .tc main_v24) : Vec F S3x1024x4096 .bf16) (ix3 ⟨t.val / 16, by omega⟩ r k) := by
  obtain ⟨h0, h1, h2⟩ := index_0 t
  blk_ext [bA, h0, h1, h2]

/-- and a block of the weights. -/
theorem bW_apply (c : Dev nD) (t : Fin 48) (k : Fin 4096) (q : Fin 256) :
    bW V c t (ix2 k q) = (V c (Proc.devRef .tc main_v29) : Vec F S4096x4096 .bf16) (ix2 k ⟨256 * (t.val % 16) + q.val, by omega⟩) := by
  obtain ⟨h0, h1⟩ := index_1 t
  blk_ext [bW, h0, h1]

/-- Where an element of a block of the output lies in the array. -/
theorem emb_2 (t : Fin 48) (r : Fin 1024) (q : Fin 256) :
    (((cfg0.win 2).blk t).view.emb (ix3 0 r q) : S3x1024x4096.Idx) = ix3 ⟨t.val / 16, by omega⟩ r ⟨256 * (t.val % 16) + q.val, by omega⟩ := by
  obtain ⟨h0, h1, h2⟩ := index_2 t
  blk_ext [h0, h1, h2]

/-- Every step writes its block of the output back, -/
theorem flush_2 (t : Fin 48) : (cfg0.win 2).flush t = true := flush0_2 t

/-- and no two steps write the same block. -/
theorem index_2_inj : ∀ t t' : Fin 48, (cfg0.win 2).flush t = true → (cfg0.win 2).flush t' = true → (cfg0.win 2).index t = (cfg0.win 2).index t' → t = t' := by
  intro t t' _ _ h
  obtain ⟨h0, h1, h2⟩ := index_2 t
  obtain ⟨h0', h1', h2'⟩ := index_2 t'
  have e0 := congrFun h 0
  have e2 := congrFun h 2
  rw [h0, h0'] at e0
  rw [h2, h2'] at e2
  exact Fin.ext (by omega)

/-- So the output is, block by block, what the steps leave in it. -/
theorem out_block (c : Dev nD) (γ : Outs0 V c) : ∃ X : Fin 48 → Vec F S1x1024x256 .f32, (∀ t, OutOk (bA V) (bW V) c t.val (X t))
    ∧ ∀ (t : Fin 48) (r : Fin 1024) (q : Fin 256), (γ.1 : Vec F S3x1024x4096 .f32) (ix3 ⟨t.val / 16, by omega⟩ r ⟨256 * (t.val % 16) + q.val, by omega⟩) = X t (ix3 0 r q) := by
  haveI : ∀ e, Nonempty (Elt F e) := fun e => inferInstance
  obtain ⟨X, hX, hA⟩ := γ.2.exists_exact
  refine ⟨X, fun t => ?_, fun t r q => ?_⟩
  · have h := hX t t.isLt (flush_2 t)
    exact Pipeline.Dat.toRRel_leaves (dat := dat V c) (fgt := fgt) (Rl := Rl V c) rfl h
  · obtain ⟨after, ha⟩ : ∃ after : (w : Fin cfg0.W) → Fin cfg0.N → (cfg0.win w).block.Idx → Elt F (cfg0.win w).elt, after 2 = X :=
      ⟨Function.update (fun _ _ _ => Classical.arbitrary _) 2 X, Function.update_self ..⟩
    have e := (congrFun (hA after fun u _ _ => by rw [ha]) _).trans (Pipeline.Dat.arrAt_emb_eq_flushed ((rdats V 0 c).withAfter after) 2
      (Pipeline.Window.hdisj_of_index_inj _ index_2_inj) t (flush_2 t) (ix3 0 r q))
    exact (congrArg γ.1 (emb_2 t r q)).symm.trans (e.trans (congrFun (congrFun ha t) (ix3 0 r q)))

end Cert.MeshProof
end
-- ==== Proof.Value.lean ====
/-
The value of the kernel over the extended reals. A device holds half of the contracted axis, by its x coordinate. In
the first sweep it multiplies its partner's rows by its columns, and sends the tiles; in the second its own rows, and
adds the tile received: a sum over both halves, so an element of the whole product. In the third it hands on what its z
partner sent, the same rows in the other half of the columns. The result is the device's block of the reference.
-/
module

public import proofs.«01_k».proof.Proof.Frames
public import Idealize.ShloMosaic.Lib.Pointwise
public import Idealize.ShloMosaic.Lib.LayoutAt
public import proofs.«01_k».proof.Proof.Exact
public import proofs.«01_k».proof.Proof.HostTail
public import proofs.«01_k».proof.Proof.HostHead
public import proofs.«01_k».proof.Proof.Blocks
public import proofs.«01_k».proof.Proof.Gen.ReferenceIdeal.Run

@[expose] public section

noncomputable section

namespace Cert.MeshProof

open Cert.KernelIdeal Cert.KernelIdeal.Gen

open Idealize.ShloMosaic
open Idealize.ShloMosaic.TcCoe
open Idealize.SL.Sem

set_option maxRecDepth 16384

/-- One term of the contraction: row `s`, contracted position `K`, column `n`. -/
def term (O : Vec Ideal Cert.ReferenceIdeal.S1x2048x64x128 .bf16) (W : Vec Ideal Cert.ReferenceIdeal.S8192x8192 .bf16) (s K n : ℕ) : EReal :=
  O (ix4 0 (Fin.ofNat 2048 s) (Fin.ofNat 64 (K / 128)) (Fin.ofNat 128 (K % 128))) * W (ix2 (Fin.ofNat 8192 K) (Fin.ofNat 8192 n))

/-- The terms of one half of the contracted axis, summed. -/
def part (O : Vec Ideal Cert.ReferenceIdeal.S1x2048x64x128 .bf16) (W : Vec Ideal Cert.ReferenceIdeal.S8192x8192 .bf16) (x s n : ℕ) : EReal := ∑ k : Fin 4096, term O W s (4096 * x + k.val) n

/-- An element of the product. -/
def prod (O : Vec Ideal Cert.ReferenceIdeal.S1x2048x64x128 .bf16) (W : Vec Ideal Cert.ReferenceIdeal.S8192x8192 .bf16) (s n : ℕ) : EReal := part O W 0 s n + part O W 1 s n

variable (O : Vec Ideal Cert.ReferenceIdeal.S1x2048x64x128 .bf16) (W : Vec Ideal Cert.ReferenceIdeal.S8192x8192 .bf16)

/-- The two halves in either order make the element. -/
theorem prod_of_parts (x s n : ℕ) (hx : x < 2) : part O W x s n + part O W (1 - x) s n = prod O W s n := by
  obtain rfl | rfl : x = 0 ∨ x = 1 := by omega
  · rfl
  · exact add_comm _ _

variable (m : (ℓ : Loc nD τ sig) → Buf (Elt Ideal) ℓ)

/-- The devices hold their blocks of the two arrays. -/
def Holds : Prop := ∀ c : Dev nD,
  (∀ (s : Fin 2048) (k : Fin 4096) , flat0 m c (ix2 s k) = O (ix4 0 s ⟨32 * (c.val / 4) + k.val / 128, by have : c.val < 8 := c.isLt; omega⟩ ⟨k.val % 128, by omega⟩))
  ∧ ∀ (k : Fin 4096) (n : Fin 8192), (m ((c : Thread nD τ).loc main_arg1) : Vec Ideal S4096x8192 .bf16) (ix2 k n) = W (ix2 ⟨4096 * (c.val / 4) + k.val, by have : c.val < 8 := c.isLt; omega⟩ n)

variable {O W m} (H : Holds O W m) (c : Dev nD)
/-- The x partner has the other x coordinate and the same z coordinate, -/
theorem xp_div : (xp c).val / 4 = 1 - c.val / 4 ∧ (xp c).val % 2 = c.val % 2 := by revert c; decide

/-- and the z partner the same x coordinate and the other z coordinate. -/
theorem zp_div : (zp c).val / 4 = c.val / 4 ∧ (zp c).val % 2 = 1 - c.val % 2 := by revert c; decide

include H

/-- A product of what a device holds is a term of the contraction. -/
theorem term_eq (s : Fin 2048) (k : Fin 4096) (q : Fin 4096) : flat0 m c (ix2 s k) * (V1 m c (Proc.devRef .tc main_v29) : Vec Ideal S4096x4096 .bf16) (ix2 k q)
    = term O W s.val (4096 * (c.val / 4) + k.val) (c.val % 2 * 4096 + q.val) := by
  have hc : c.val < 8 := c.isLt
  rw [(H c).1, v29_apply, (H c).2]
  unfold term
  congr 3 <;> apply Fin.ext <;> simp only [Fin.val_ofNat] <;> omega

/-- What a device computes in the first sweep: the sum over its half, at the rows of its x partner. -/
theorem part_peer (j : Fin 16) (r : Fin 1024) (q : Fin 256) :
    k0_pay1 (bA (V1 m) c (pt0 j)) (bW (V1 m) c (pt0 j)) (ix3 0 r q) = part O W (c.val / 4) ((1 - c.val / 4) * 1024 + r.val) (c.val % 2 * 4096 + (256 * j.val + q.val)) := by
  rw [pay1_apply]
  refine Finset.sum_congr rfl fun k _ => ?_
  rw [bA_apply, bW_apply]
  have e : (⟨(pt0 j).val / 16, by have := (pt0 j).isLt; omega⟩ : Fin 3) = 0 := Fin.ext (by show j.val / 16 = 0; omega)
  have e' : (⟨256 * ((pt0 j).val % 16) + q.val, by omega⟩ : Fin 4096) = ⟨256 * j.val + q.val, by omega⟩ := Fin.ext (by show 256 * (j.val % 16) + q.val = 256 * j.val + q.val; omega)
  rw [e, e', v24_peer, peer0_apply, term_eq H]

/-- What it computes in the second: the sum over its half, at its own rows. -/
theorem part_own (j : Fin 16) (r : Fin 1024) (q : Fin 256) :
    (∑ k : Fin 4096, bA (V1 m) c (pt1 j) (ix3 0 r k) * bW (V1 m) c (pt1 j) (ix2 k q)) = part O W (c.val / 4) (c.val / 4 * 1024 + r.val) (c.val % 2 * 4096 + (256 * j.val + q.val)) := by
  refine Finset.sum_congr rfl fun k _ => ?_
  rw [bA_apply, bW_apply]
  have e : (⟨(pt1 j).val / 16, by have := (pt1 j).isLt; omega⟩ : Fin 3) = 1 := Fin.ext (by show (16 + j.val) / 16 = 1; omega)
  have e' : (⟨256 * ((pt1 j).val % 16) + q.val, by omega⟩ : Fin 4096) = ⟨256 * j.val + q.val, by omega⟩ := Fin.ext (by show 256 * ((16 + j.val) % 16) + q.val = 256 * j.val + q.val; omega)
  rw [e, e', v24_own1, own0_apply, term_eq H]

/-- What it receives: the sum over the other half, at its own rows. -/
theorem part_received (j : Fin 16) (r : Fin 1024) (q : Fin 256) :
    rowOf (RX (bA (V1 m)) (bW (V1 m)) c) j (ix3 0 r q) = part O W (1 - c.val / 4) (c.val / 4 * 1024 + r.val) (c.val % 2 * 4096 + (256 * j.val + q.val)) := by
  have h := part_peer H (xp c) j r q
  have hc : c.val < 8 := c.isLt
  have e : 1 - (1 - c.val / 4) = c.val / 4 := by omega
  rw [(xp_div c).1, (xp_div c).2, e] at h
  exact h

/-- So the tile that it passes on is a tile of the whole product, -/
theorem sum_rounded (j : Fin 16) (r : Fin 1024) (q : Fin 256) :
    k0_pay6 (bA (V1 m) c (pt1 j)) (bW (V1 m) c (pt1 j)) (rowOf (RX (bA (V1 m)) (bW (V1 m)) c) j) (ix2 r q) = prod O W (c.val / 4 * 1024 + r.val) (c.val % 2 * 4096 + (256 * j.val + q.val)) := by
  rw [pay6_apply, part_own H, part_received H, prod_of_parts _ _ _ _ _ (by have : c.val < 8 := c.isLt; omega)]

/-- and the block that it writes is the same tile. -/
theorem sum_kept (j : Fin 16) (r : Fin 1024) (q : Fin 256) :
    k0_pay5 (bA (V1 m) c (pt1 j)) (bW (V1 m) c (pt1 j)) (rowOf (RX (bA (V1 m)) (bW (V1 m)) c) j) (ix3 0 r q) = prod O W (c.val / 4 * 1024 + r.val) (c.val % 2 * 4096 + (256 * j.val + q.val)) := by
  rw [pay5_apply, part_own H, part_received H, prod_of_parts _ _ _ _ _ (by have : c.val < 8 := c.isLt; omega)]

/-- What a device passes on to its z partner, at an index, -/
theorem FN_apply (r : Fin 1024) (n : Fin 4096) : FN (bA (V1 m)) (bW (V1 m)) c (ix2 r n) = prod O W (c.val / 4 * 1024 + r.val) (c.val % 2 * 4096 + n.val) := by
  have h := sum_rounded H c ⟨n.val / 256, by omega⟩ r ⟨n.val % 256, by omega⟩
  rw [show 256 * (n.val / 256) + n.val % 256 = n.val by omega] at h
  exact h

/-- and what it receives. -/
theorem RZ_apply (r : Fin 1024) (n : Fin 4096) : RZ (bA (V1 m)) (bW (V1 m)) c (ix2 r n) = prod O W (c.val / 4 * 1024 + r.val) ((1 - c.val % 2) * 4096 + n.val) := by
  have h := FN_apply H (zp c) r n
  rw [(zp_div c).1, (zp_div c).2] at h
  exact h

/-- The plane of the second sweep is the device's half of the columns, -/
theorem plane_1 (γ : Outs0 (V1 m) c) (r : Fin 1024) (n : Fin 4096) : (γ.1 : Vec Ideal S3x1024x4096 .f32) (ix3 1 r n) = prod O W (c.val / 4 * 1024 + r.val) (c.val % 2 * 4096 + n.val) := by
  obtain ⟨X, hX, hγ⟩ := out_block (V1 m) c γ
  have h := hγ (pt1 ⟨n.val / 256, by omega⟩) r ⟨n.val % 256, by omega⟩
  rw [(hX _).1 ⟨n.val / 256, by omega⟩ rfl, sum_kept H] at h
  have e : (⟨(pt1 ⟨n.val / 256, by omega⟩).val / 16, by have := (pt1 ⟨n.val / 256, by omega⟩).isLt; omega⟩ : Fin 3) = 1 := Fin.ext (by show (16 + n.val / 256) / 16 = 1; omega)
  have e' : (⟨256 * ((pt1 ⟨n.val / 256, by omega⟩).val % 16) + n.val % 256, by omega⟩ : Fin 4096) = n := Fin.ext (by show 256 * ((16 + n.val / 256) % 16) + n.val % 256 = _; omega)
  rw [e, e', show 256 * (n.val / 256) + n.val % 256 = n.val by omega] at h
  exact h

/-- and that of the third the other half. -/
theorem plane_2 (γ : Outs0 (V1 m) c) (r : Fin 1024) (n : Fin 4096) : (γ.1 : Vec Ideal S3x1024x4096 .f32) (ix3 2 r n) = prod O W (c.val / 4 * 1024 + r.val) ((1 - c.val % 2) * 4096 + n.val) := by
  obtain ⟨X, hX, hγ⟩ := out_block (V1 m) c γ
  have h := hγ ⟨32 + n.val / 256, by omega⟩ r ⟨n.val % 256, by omega⟩
  rw [(hX _).2 ⟨n.val / 256, by omega⟩ rfl, pay3_apply] at h
  have e : (⟨(32 + n.val / 256) / 16, by omega⟩ : Fin 3) = 2 := Fin.ext (by show (32 + n.val / 256) / 16 = 2; omega)
  have e' : (⟨256 * ((32 + n.val / 256) % 16) + n.val % 256, by omega⟩ : Fin 4096) = n := Fin.ext (by show 256 * ((32 + n.val / 256) % 16) + n.val % 256 = _; omega)
  have e'' : (⟨256 * (n.val / 256) + n.val % 256, by omega⟩ : Fin 4096) = n := Fin.ext (by show 256 * (n.val / 256) + n.val % 256 = _; omega)
  rw [e, e'] at h
  exact h.trans ((congrArg (fun k => RZ (bA (V1 m)) (bW (V1 m)) c (ix2 r k)) e'').trans (RZ_apply H c r n))

/-- The result on a device: its rows of the product, at every column. -/
theorem kernel_value (γ : Outs0 (V1 m) c) (r : Fin 1024) (n : Fin 8192) : (W5 m c γ (Proc.devRef .tc main_v36) : Vec Ideal S1x1024x8192 .f32) (ix3 0 r n)
    = prod O W (c.val / 4 * 1024 + r.val) n.val := by
  rw [result_apply]
  have hz : c.val % 2 = 0 ∨ c.val % 2 = 1 := by omega
  by_cases h : n.val < 4096
  · rw [dif_pos h]
    obtain hz | hz := hz
    · have e : (⟨1 + c.val % 2, by omega⟩ : Fin 3) = 1 := Fin.ext (by show 1 + c.val % 2 = 1; omega)
      rw [e, plane_1 H]; exact congrArg (prod O W _) (by show c.val % 2 * 4096 + n.val = n.val; omega)
    · have e : (⟨1 + c.val % 2, by omega⟩ : Fin 3) = 2 := Fin.ext (by show 1 + c.val % 2 = 2; omega)
      rw [e, plane_2 H]; exact congrArg (prod O W _) (by show (1 - c.val % 2) * 4096 + n.val = n.val; omega)
  · rw [dif_neg h]
    obtain hz | hz := hz
    · have e : (⟨2 - c.val % 2, by omega⟩ : Fin 3) = 2 := Fin.ext (by show 2 - c.val % 2 = 2; omega)
      rw [e, plane_2 H]; exact congrArg (prod O W _) (by show (1 - c.val % 2) * 4096 + (n.val - 4096) = n.val; omega)
    · have e : (⟨2 - c.val % 2, by omega⟩ : Fin 3) = 1 := Fin.ext (by show 2 - c.val % 2 = 1; omega)
      rw [e, plane_1 H]; exact congrArg (prod O W _) (by show c.val % 2 * 4096 + (n.val - 4096) = n.val; omega)
omit H

/-- The reference at an index is the same sum. -/
theorem reference_value (O : Vec Ideal Cert.ReferenceIdeal.S1x2048x64x128 .bf16) (W : Vec Ideal Cert.ReferenceIdeal.S8192x8192 .bf16) (r : Fin 2048) (n : Fin 8192) :
    extf .f32 (truncf .bf16 (Host.dotGeneral (F := Ideal) (φ₁ := .bf16) (φ₂ := .bf16) Cert.ReferenceIdeal.dot_S1x2048x8192_S8192x8192_S1x2048x8192_2_0_01_1_n_n none
      (shapeCast _ O Cert.ReferenceIdeal.Facts₀.shapeCasts_S1x2048x64x128_S1x2048x8192) W) Cert.ReferenceIdeal.Facts₀.bitsLt_bf16_f32)
      Cert.ReferenceIdeal.Facts₀.bitsLt_bf16_f32 (ix3 0 r n) = prod O W r.val n.val := by
  have e : extf .f32 (truncf .bf16 (Host.dotGeneral (F := Ideal) (φ₁ := .bf16) (φ₂ := .bf16) Cert.ReferenceIdeal.dot_S1x2048x8192_S8192x8192_S1x2048x8192_2_0_01_1_n_n none
      (shapeCast _ O Cert.ReferenceIdeal.Facts₀.shapeCasts_S1x2048x64x128_S1x2048x8192) W) Cert.ReferenceIdeal.Facts₀.bitsLt_bf16_f32)
      Cert.ReferenceIdeal.Facts₀.bitsLt_bf16_f32 (ix3 0 r n) = ∑ k : Fin 8192, O (ix4 0 r ⟨k.val / 128, by omega⟩ ⟨k.val % 128, by omega⟩) * W (ix2 k n) := by
    pointwise []
  have e' : ∀ k : Fin 8192, O (ix4 0 r ⟨k.val / 128, by omega⟩ ⟨k.val % 128, by omega⟩) * W (ix2 k n) = term O W r.val k.val n.val := fun k => by
    unfold term
    congr 3 <;> apply Fin.ext <;> simp only [Fin.val_ofNat] <;> omega
  rw [e, Finset.sum_congr rfl fun k _ => e' k]
  refine (Fin.sum_univ_two_halves 4096 4096 rfl fun k : Fin 8192 => term O W r.val k.val n.val).trans ?_
  unfold prod part
  congr 1

/-- Devices that hold their blocks of the reference's arguments hold what the sums above need. -/
theorem holds_of_blocks (O : Vec Ideal Cert.ReferenceIdeal.S1x2048x64x128 .bf16) (W : Vec Ideal Cert.ReferenceIdeal.S8192x8192 .bf16) (m : (ℓ : Loc nD τ sig) → Buf (Elt Ideal) ℓ)
    (h : ∀ c : Dev nD, m ((c : Thread nD τ).loc main_arg0) = Layout.blockN ⟨4, ![1, 2048, 32, 128]⟩ ⟨4, ![1, 2048, 64, 128]⟩ (Layout.meshBlock [2, 2, 2] ![[], [], [0], []] c) O
      ∧ m ((c : Thread nD τ).loc main_arg1) = Layout.blockN ⟨2, ![4096, 8192]⟩ ⟨2, ![8192, 8192]⟩ (Layout.meshBlock [2, 2, 2] ![[0], []] c) W) : Holds O W m := by
  intro c
  have hc : c.val < 8 := c.isLt
  have hx : Layout.meshLin [2, 2, 2] c.val [0] = c.val / 4 := by revert c; decide
  constructor
  · intro s k
    rw [flat0_apply, (h c).1]
    have b0 : Layout.meshLin [2, 2, 2] c.val ((![[], [], [0], []] : Fin 4 → List ℕ) ⟨0, by decide⟩) = 0 := rfl
    have b1 : Layout.meshLin [2, 2, 2] c.val ((![[], [], [0], []] : Fin 4 → List ℕ) ⟨1, by decide⟩) = 0 := rfl
    have b2 : Layout.meshLin [2, 2, 2] c.val ((![[], [], [0], []] : Fin 4 → List ℕ) ⟨2, by decide⟩) = c.val / 4 := hx
    have b3 : Layout.meshLin [2, 2, 2] c.val ((![[], [], [0], []] : Fin 4 → List ℕ) ⟨3, by decide⟩) = 0 := rfl
    shard_ext
  · intro k n
    rw [(h c).2]
    have b0 : Layout.meshLin [2, 2, 2] c.val ((![[0], []] : Fin 2 → List ℕ) ⟨0, by decide⟩) = c.val / 4 := hx
    have b1 : Layout.meshLin [2, 2, 2] c.val ((![[0], []] : Fin 2 → List ℕ) ⟨1, by decide⟩) = 0 := rfl
    shard_ext

/-- The block of a device in the result, by coordinates. -/
theorem block_at (c : Dev nD) (Y : Vec Ideal Cert.ReferenceIdeal.S1x2048x8192 .f32) (r : Fin 1024) (n : Fin 8192) :
    (Layout.blockN ⟨3, ![1, 1024, 8192]⟩ ⟨3, ![1, 2048, 8192]⟩ (Layout.meshBlock [2, 2, 2] ![[], [0], []] c) Y : Vec Ideal S1x1024x8192 .f32) (ix3 0 r n)
      = Y (ix3 0 ⟨c.val / 4 * 1024 + r.val, by have : c.val < 8 := c.isLt; omega⟩ n) := by
  have hc : c.val < 8 := c.isLt
  have hx : Layout.meshLin [2, 2, 2] c.val [0] = c.val / 4 := by revert c; decide
  have b0 : Layout.meshLin [2, 2, 2] c.val ((![[], [0], []] : Fin 3 → List ℕ) ⟨0, by decide⟩) = 0 := rfl
  have b1 : Layout.meshLin [2, 2, 2] c.val ((![[], [0], []] : Fin 3 → List ℕ) ⟨1, by decide⟩) = c.val / 4 := hx
  have b2 : Layout.meshLin [2, 2, 2] c.val ((![[], [0], []] : Fin 3 → List ℕ) ⟨2, by decide⟩) = 0 := rfl
  shard_ext

/-- On every device the kernel's result is its block of the reference's. -/
theorem algebraic : Cert.algebraic_KernelIdeal_ReferenceIdeal := by
  intro m g m' g' _ hagree
  have H := holds_of_blocks _ _ m hagree
  refine ⟨_, (θ_run _ _ _).mono (fun r h c => ?_) (run_main (F := Ideal) m g), (θ_run _ _ _).mono (fun _ h => h 0) (Cert.ReferenceIdeal.Value.run (F := Ideal) m' g')⟩
  obtain ⟨⟨γ, hγ⟩, h0, h1⟩ := h.1 c
  refine ⟨?_, h0, h1⟩
  rw [hγ]
  funext i
  have hi : i = (ix3 0 (i 1) (i 2) : S1x1024x8192.Idx) :=
    (eq_ix3 (n0 := 1) (n1 := 1024) (n2 := 8192) i).trans (congrArg (fun s => ix3 s (i 1) (i 2)) (Subsingleton.elim (α := Fin 1) _ _))
  rw [hi]
  exact (kernel_value H c γ (i 1) (i 2)).trans ((reference_value _ _ _ (i 2)).symm.trans (block_at c _ (i 1) (i 2)).symm)

end Cert.MeshProof
end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Regions
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Regions
public import proofs.«01_k».proof.Proof.Gen.KernelIdeal.Points
public import proofs.«01_k».proof.Proof.Gen.ReferenceIdeal
public import proofs.«01_k».proof.Proof.Gen.ReferenceIdeal.Run
public import proofs.«01_k».proof.Proof.Frames
public import proofs.«01_k».proof.Proof.Value
public import Idealize.ShloMosaic.Adequacy
public import Idealize.ShloMosaic.Init

@[expose] public section

noncomputable section

namespace Cert.Proof

open Idealize.ShloMosaic Idealize.SL.Sem Cert.Kernel

theorem claim : Cert.Claim :=
  ⟨Cert.Kernel.Gen.facts, Cert.KernelIdeal.Gen.facts, Cert.ReferenceIdeal.Gen.facts,
    Cert.MeshProof.frame_kernel, Cert.MeshProof.frame_ideal, Cert.MeshProof.frame_reference, trivial, Cert.MeshProof.algebraic⟩

end Cert.Proof

end
